-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S1x1 : Shape := ⟨2, ![1, 1]⟩
abbrev S8x256x4096 : Shape := ⟨3, ![8, 256, 4096]⟩
abbrev S7 : Shape := ⟨1, ![7]⟩
abbrev S_ : Shape := ⟨0, ![]⟩
abbrev S256x4096 : Shape := ⟨2, ![256, 4096]⟩
abbrev S1x256x4096 : Shape := ⟨3, ![1, 256, 4096]⟩
abbrev S256x1024 : Shape := ⟨2, ![256, 1024]⟩

abbrev nBuf : Space → Nat
  | .hbm => 7
  | .vmem => 5
  | .smem => 1
  | _ => 0

abbrev bufTy : (tb : Table) → Fin (tcTables nBuf tb) → BufTy
  | .hbm, ⟨0, _⟩ => ⟨S512x4096, .fp8e5m2⟩
  | .hbm, ⟨1, _⟩ => ⟨S4096x1024, .fp8e5m2⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S4096x1024, .f32⟩
  | .local _ .vmem, ⟨0, _⟩ => ⟨S512x4096, .fp8e5m2⟩
  | .local _ .vmem, ⟨1, _⟩ => ⟨S4096x1024, .fp8e5m2⟩
  | .local _ .vmem, ⟨2, _⟩ => ⟨S4096x1024, .f32⟩
  | .local _ .vmem, ⟨3, _⟩ => ⟨S8x256x4096, .fp8e5m2⟩
  | .local _ .vmem, ⟨4, _⟩ => ⟨S8x256x4096, .fp8e5m2⟩
  | .local _ .smem, ⟨0, _⟩ => ⟨S1x1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : Index := Scalar.indexCast v2
  let c0_13 : Index := 0#32
  let c0_14 : Index := 0#32
  ![v16.toNat, 0, 0]
def k0_off2 (d0 : Dev nD) (c0_i32_19 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_18 : BitVec 32 := 8#32
  let v26 : BitVec 32 := Scalar.addi v2 c8_i32_18
  let v27 : BitVec 32 := Scalar.subi v26 c0_i32_19
  let c8_i32_20 : BitVec 32 := 8#32
  let v28 : BitVec 32 := Scalar.remsi v27 c8_i32_20
  let c0_i32_27 : BitVec 32 := 0#32
  let c0_i32_28 : BitVec 32 := 0#32
  ![v28.toNat, 0, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_25 : BitVec 32 := 1#32
  let v31 : BitVec 32 := Scalar.muli v7 c1_i32_25
  let v32 : BitVec 32 := Scalar.addi c0_i32_26 v31
  v32.toNat
def k0_off3 (d0 : Dev nD) (c0_i32_21 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v29 : BitVec 32 := Scalar.addi v2 c0_i32_21
  let c8_i32_22 : BitVec 32 := 8#32
  let v30 : BitVec 32 := Scalar.remsi v29 c8_i32_22
  let c0_i32_35 : BitVec 32 := 0#32
  let c0_i32_36 : BitVec 32 := 0#32
  ![v30.toNat, 0, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_33 : BitVec 32 := 1#32
  let v41 : BitVec 32 := Scalar.muli v5 c1_i32_33
  let v42 : BitVec 32 := Scalar.addi c0_i32_34 v41
  v42.toNat
def k0_off4 (d0 : Dev nD) (c0_i32_40 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_39 : BitVec 32 := 8#32
  let v51 : BitVec 32 := Scalar.addi v2 c8_i32_39
  let v52 : BitVec 32 := Scalar.subi v51 c0_i32_40
  let c8_i32_41 : BitVec 32 := 8#32
  let v53 : BitVec 32 := Scalar.remsi v52 c8_i32_41
  let v56 : Index := Scalar.indexCast v53
  let c0_44 : Index := 0#32
  let c0_45 : Index := 0#32
  ![v56.toNat, 0, 0]
def k0_off5 (d0 : Dev nD) (c0_i32_40 : BitVec 32) (c0_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_39 : BitVec 32 := 8#32
  let v51 : BitVec 32 := Scalar.addi v2 c8_i32_39
  let v52 : BitVec 32 := Scalar.subi v51 c0_i32_40
  let c8_i32_41 : BitVec 32 := 8#32
  let v53 : BitVec 32 := Scalar.remsi v52 c8_i32_41
  let c512_i32 : BitVec 32 := 512#32
  let v66 : BitVec 32 := Scalar.muli v53 c512_i32
  let v67 : BitVec 32 := Scalar.addi v66 c0_i32_49
  let v68 : Index := Scalar.indexCast v67
  let c0_50 : Index := 0#32
  ![v68.toNat, 0]
def k0_off5_at (r : Fin 8) : BitVec 32 × BitVec 32 :=
  if r.val < 4 then
    if r.val < 2 then
      if r.val < 1 then
        (0#32, 0#32)
      else
        (1#32, 0#32)
    else
      if r.val < 3 then
        (2#32, 0#32)
      else
        (3#32, 0#32)
  else
    if r.val < 6 then
      if r.val < 5 then
        (4#32, 0#32)
      else
        (5#32, 0#32)
    else
      if r.val < 7 then
        (6#32, 0#32)
      else
        (1#32, 256#32)
def k0_off6 (d0 : Dev nD) (c0_i32_42 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.addi v2 c0_i32_42
  let c8_i32_43 : BitVec 32 := 8#32
  let v55 : BitVec 32 := Scalar.remsi v54 c8_i32_43
  let v70 : Index := Scalar.indexCast v55
  let c0_51 : Index := 0#32
  let c0_52 : Index := 0#32
  ![v70.toNat, 0, 0]
def k0_off7 (d0 : Dev nD) (c0_i32_42 : BitVec 32) (c256_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.addi v2 c0_i32_42
  let c8_i32_43 : BitVec 32 := 8#32
  let v55 : BitVec 32 := Scalar.remsi v54 c8_i32_43
  let c512_i32_57 : BitVec 32 := 512#32
  let v80 : BitVec 32 := Scalar.muli v55 c512_i32_57
  let v81 : BitVec 32 := Scalar.addi v80 c256_i32
  let v82 : Index := Scalar.indexCast v81
  let c0_58 : Index := 0#32
  ![v82.toNat, 0]
def k0_off7_at (r : Fin 8) : BitVec 32 × BitVec 32 :=
  if r.val < 4 then
    if r.val < 2 then
      if r.val < 1 then
        (0#32, 256#32)
      else
        (1#32, 256#32)
    else
      if r.val < 3 then
        (2#32, 256#32)
      else
        (3#32, 256#32)
  else
    if r.val < 6 then
      if r.val < 5 then
        (4#32, 256#32)
      else
        (5#32, 256#32)
    else
      if r.val < 7 then
        (6#32, 256#32)
      else
        (1#32, 0#32)
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_96 : BitVec 32 := 1#32
  let v117 : BitVec 32 := Scalar.muli v7 c1_i32_96
  let v118 : BitVec 32 := Scalar.addi c0_i32_97 v117
  v118.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_104 : BitVec 32 := 1#32
  let v127 : BitVec 32 := Scalar.muli v5 c1_i32_104
  let v128 : BitVec 32 := Scalar.addi c0_i32_105 v127
  v128.toNat
def k0_dev7 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_170 : BitVec 32 := 1#32
  let v203 : BitVec 32 := Scalar.muli v7 c1_i32_170
  let v204 : BitVec 32 := Scalar.addi c0_i32_171 v203
  v204.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_178 : BitVec 32 := 1#32
  let v213 : BitVec 32 := Scalar.muli v5 c1_i32_178
  let v214 : BitVec 32 := Scalar.addi c0_i32_179 v213
  v214.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_243 : BitVec 32 := 1#32
  let v289 : BitVec 32 := Scalar.muli v7 c1_i32_243
  let v290 : BitVec 32 := Scalar.addi c0_i32_244 v289
  v290.toNat
def k0_dev10 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_251 : BitVec 32 := 1#32
  let v299 : BitVec 32 := Scalar.muli v5 c1_i32_251
  let v300 : BitVec 32 := Scalar.addi c0_i32_252 v299
  v300.toNat
def k0_dev11 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_316 : BitVec 32 := 1#32
  let v375 : BitVec 32 := Scalar.muli v7 c1_i32_316
  let v376 : BitVec 32 := Scalar.addi c0_i32_317 v375
  v376.toNat
def k0_dev12 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_324 : BitVec 32 := 1#32
  let v385 : BitVec 32 := Scalar.muli v5 c1_i32_324
  let v386 : BitVec 32 := Scalar.addi c0_i32_325 v385
  v386.toNat
def k0_dev13 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_389 : BitVec 32 := 1#32
  let v461 : BitVec 32 := Scalar.muli v7 c1_i32_389
  let v462 : BitVec 32 := Scalar.addi c0_i32_390 v461
  v462.toNat
def k0_dev14 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_397 : BitVec 32 := 1#32
  let v471 : BitVec 32 := Scalar.muli v5 c1_i32_397
  let v472 : BitVec 32 := Scalar.addi c0_i32_398 v471
  v472.toNat
def k0_dev15 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_462 : BitVec 32 := 1#32
  let v547 : BitVec 32 := Scalar.muli v7 c1_i32_462
  let v548 : BitVec 32 := Scalar.addi c0_i32_463 v547
  v548.toNat
def k0_dev16 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_470 : BitVec 32 := 1#32
  let v557 : BitVec 32 := Scalar.muli v5 c1_i32_470
  let v558 : BitVec 32 := Scalar.addi c0_i32_471 v557
  v558.toNat
abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
  The kernel body written as a structured program: a prologue, seven hops that differ in their number only, an epilogue.
  `body_eq` says the printed body is this program.
-/
module

public import proofs.«01_k».proof.Proof.Gen.KernelIdeal.Skeleton
public import proofs.«01_k».proof.Proof.Gen.KernelIdeal.Frame

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The type of a TensorCore program of this kernel. -/
abbrev TProg (F : FTy → Type) [FloatOps F] : Type 1 := Prog (TpuEff nD τ sig (Elt F) Λ₀ .tc) PUnit

/-- The staged operands: the device's rows of `x`, its columns of `w`, the scale, the result. -/
abbrev xM : Memref sig .tc .vmem S512x4096 .fp8e5m2 := Memref.whole cc0_stg0_0
abbrev wM : Memref sig .tc .vmem S4096x1024 .fp8e5m2 := Memref.whole cc0_stg1_0
abbrev sM : Memref sig .tc .smem S1x1 .f32 := Memref.whole cc0_stg2_0
abbrev oM : Memref sig .tc .vmem S4096x1024 .f32 := Memref.whole cc0_stg3_0

/-- The gathering buffer of a direction: `false` is the direction of growing device numbers, `true` the other. -/
abbrev scr : Bool → Ref sig .tc
  | false => cc0_scratch0
  | true => cc0_scratch1
abbrev gM : Bool → Memref sig .tc .vmem S8x256x4096 .fp8e5m2
  | false => Memref.whole cc0_scratch0
  | true => Memref.whole cc0_scratch1
/-- A gathering buffer is named whole. -/
theorem gM_whole : ∀ b, (gM b).IsWhole
  | false => Memref.isWhole_whole _
  | true => Memref.isWhole_whole _

/-- A hop's number is in range of the seven semaphores. -/
theorem inb7 : ∀ h : Fin 7, ∀ a, (![h.val] : Fin 1 → ℕ) a + S1.size a ≤ S7.size a := by decide

/-- The semaphore of hop `h` in an array of seven. -/
abbrev semAt (A : DmaSems sig S7) (h : Fin 7) : DmaSem sig :=
  ((A.slice (Rect.unit (s := S7) ![h.val] S1.size (inb7 h))).squeeze S_ squeezes_S1_S_).sem

/-- The send and the receive semaphore of hop `h` in each direction. -/
abbrev sSem : Bool → Fin 7 → DmaSem sig
  | false => semAt cc0_scratch2
  | true => semAt cc0_scratch4
abbrev rSem : Bool → Fin 7 → DmaSem sig
  | false => semAt cc0_scratch3
  | true => semAt cc0_scratch5

/-- The barrier's semaphore. -/
abbrev barS : Sem sig := (SemArray.scalar (sig.barrier 0 rfl) : Sems sig S_).sem

/-- The device the copy of hop `h` goes to, as the body computes it. -/
abbrev dst : Bool → Fin 7 → Dev nD → Dev nD
  | false => fun h d => ![⟨k0_dev3 d, k0_dev3_lt d⟩, ⟨k0_dev5 d, k0_dev5_lt d⟩, ⟨k0_dev7 d, k0_dev7_lt d⟩, ⟨k0_dev9 d, k0_dev9_lt d⟩,
      ⟨k0_dev11 d, k0_dev11_lt d⟩, ⟨k0_dev13 d, k0_dev13_lt d⟩, ⟨k0_dev15 d, k0_dev15_lt d⟩] h
  | true => fun h d => ![⟨k0_dev4 d, k0_dev4_lt d⟩, ⟨k0_dev6 d, k0_dev6_lt d⟩, ⟨k0_dev8 d, k0_dev8_lt d⟩, ⟨k0_dev10 d, k0_dev10_lt d⟩,
      ⟨k0_dev12 d, k0_dev12_lt d⟩, ⟨k0_dev14 d, k0_dev14_lt d⟩, ⟨k0_dev16 d, k0_dev16_lt d⟩] h

/-- Where the slot that hop `h` sends begins, as the body computes it. -/
abbrev off : Bool → Fin 7 → Dev nD → Fin 3 → ℕ
  | false => fun h d => k0_off2 d (BitVec.ofNat 32 h.val)
  | true => fun h d => k0_off3 d (BitVec.ofNat 32 h.val)
/-- The slot that a hop sends lies in the buffer. -/
theorem off_inb : ∀ b h d, ∀ a, off b h d a + S1x256x4096.size a ≤ S8x256x4096.size a
  | false => fun h d => k0_off2_inb d h
  | true => fun h d => k0_off3_inb d h

/-- The slot that hop `h` sends, as a view without the leading axis. -/
abbrev slotM (b : Bool) (h : Fin 7) (d : Dev nD) : Memref sig .tc .vmem S256x4096 .fp8e5m2 :=
  ((gM b).slice (Rect.unit (s := S8x256x4096) (off b h d) S1x256x4096.size (off_inb b h d)) (fun _ => rfl)).squeeze S256x4096 squeezes_S1x256x4096_S256x4096

/-- A slot begins and ends at word boundaries. -/
theorem slotM_exact : ∀ b h d, (slotM b h d).view.WordExact
  | false, h, d => ((gM_whole false).wordExact_slice rfl _ (k0_off2_wordsfp8e5m2 d h)).reshape _ _
  | true, h, d => ((gM_whole true).wordExact_slice rfl _ (k0_off3_wordsfp8e5m2 d h)).reshape _ _

/-- What the kernel computes from a slot, the weights and the scale: the product, scaled, cut at zero. -/
abbrev payC (s : Elt F .f32) (v : Vec F S1x256x4096 .fp8e5m2) (u : Vec F S4096x1024 .fp8e5m2) : FVec F S256x1024 .f32 := k0_pay1 s v u

/-- One computation: read the slot at `o` of a gathering buffer, write 256 rows of the result at `p`. -/
def compute (b : Bool) (o : Fin 3 → ℕ) (ho : ∀ a, o a + S1x256x4096.size a ≤ S8x256x4096.size a)
    (p : Fin 2 → ℕ) (hp : ∀ a, p a + S256x1024.size a ≤ S4096x1024.size a) (s : Elt F .f32) (k : TProg F) : TProg F :=
  .op (.load (gM b) (Rect.unit (s := S8x256x4096) o S1x256x4096.size ho).toLoadRect (View.loadsAt_vmem h_S1x256x4096)) fun v =>
  .op (.load wM (Rect.unit (s := S4096x1024) ![0, 0] S4096x1024.size inb_S4096x1024_S4096x1024_0_0).toLoadRect (View.loadsAt_vmem h_S4096x1024)) fun u =>
  .op (.load oM (Rect.unit (s := S4096x1024) p S256x1024.size hp).toLoadRect (View.loadsAt_vmem h_S256x1024)) fun _ =>
  .op (.store oM (Rect.unit (s := S4096x1024) p S256x1024.size hp) (payC s v u) Finset.univ (View.stores_vmem_bits_univ h_S256x1024 rfl) (.inl rfl)) fun _ => k

/-- The copy of hop `h` in a direction, to a device `e`. -/
def sendTo (b : Bool) (h : Fin 7) (d e : Dev nD) (k : TProg F) : TProg F :=
  .op (.enqueueDma (slotM b h d) (.remote (Dev.tc e) (slotM b h d) (.dma (sSem b h))) (.dma (rSem b h)) (slotM_exact b h d) (slotM_exact b h d)
    ⟨⟨rfl, Or.inl rfl⟩, trivial⟩) fun _ => k
/-- The copy of hop `h` in a direction. -/
abbrev send (b : Bool) (h : Fin 7) (d : Dev nD) (k : TProg F) : TProg F := sendTo b h d (dst b h d) k

/-- The two waits of hop `h` in a direction: the own copy has left, the neighbour's has arrived. -/
def waits (b : Bool) (h : Fin 7) (d : Dev nD) (k : TProg F) : TProg F :=
  .op (.waitDma2 (sSem b h) (slotM b h d) (slotM b h d) (slotM_exact b h d) (slotM_exact b h d)) fun _ =>
  .op (.waitDma2 (rSem b h) (slotM b h d) (slotM b h d) (slotM_exact b h d) (slotM_exact b h d)) fun _ => k

/-- Hop `h`: both copies start, both slots under way are computed with, then the four waits. -/
def hop (d : Dev nD) (s : Elt F .f32) (h : Fin 7) (k : TProg F) : TProg F :=
  send false h d <| send true h d <|
  compute false (k0_off4 d (BitVec.ofNat 32 h.val)) (k0_off4_inb d h) (k0_off5 d (k0_off5_at h.castSucc).1 (k0_off5_at h.castSucc).2) (k0_off5_inb d h.castSucc) s <|
  compute true (k0_off6 d (BitVec.ofNat 32 h.val)) (k0_off6_inb d h) (k0_off7 d (k0_off7_at h.castSucc).1 (k0_off7_at h.castSucc).2) (k0_off7_inb d h.castSucc) s <|
  waits false h d <| waits true h d k

/-- The own half block into the own slot of a direction's gathering buffer: rows `q` on of the staged rows. -/
def fill (b : Bool) (q : Fin 2 → ℕ) (hq : ∀ a, q a + S256x4096.size a ≤ S512x4096.size a) (d : Dev nD) (k : TProg F) : TProg F :=
  .op (.load xM (Rect.unit (s := S512x4096) q S256x4096.size hq).toLoadRect (View.loadsAt_vmem h_S256x4096)) fun v =>
  .op (.load (gM b) (Rect.unit (s := S8x256x4096) (k0_off1 d) S1x256x4096.size (k0_off1_inb d)).toLoadRect (View.loadsAt_vmem h_S1x256x4096)) fun _ =>
  .op (.store (gM b) (Rect.unit (s := S8x256x4096) (k0_off1 d) S1x256x4096.size (k0_off1_inb d)) (k0_pay2 v) Finset.univ
    (View.stores_vmem h_S1x256x4096 ((gM_whole b).storeExact_slice rfl _ (k0_off1_packedfp8e5m2 d)) (fun _ => rfl)) (.inl rfl)) fun _ => k

/-- After the hops: the two slots that arrived last. -/
def finish (d : Dev nD) (s : Elt F .f32) : TProg F :=
  compute false (k0_off6 d (BitVec.ofNat 32 (1 : Fin 7).val)) (k0_off6_inb d 1) (k0_off7 d (k0_off7_at 7).1 (k0_off7_at 7).2) (k0_off7_inb d 7) s <|
  compute true (k0_off4 d (BitVec.ofNat 32 (1 : Fin 7).val)) (k0_off4_inb d 1) (k0_off5 d (k0_off5_at 7).1 (k0_off5_at 7).2) (k0_off5_inb d 7) s <|
  .ret ⟨⟩

/-- The hops of a list, in order. -/
def hops (d : Dev nD) (s : Elt F .f32) (l : List (Fin 7)) (k : TProg F) : TProg F := l.foldr (hop d s) k

/-- From the own half blocks on, at the scale read. -/
def gather (d : Dev nD) (s : Elt F .f32) : TProg F :=
  fill false ![0, 0] inb_S512x4096_S256x4096_0_0 d <| fill true ![256, 0] inb_S512x4096_S256x4096_256_0 d <|
  hops d s [0, 1, 2, 3, 4, 5, 6] (finish d s)

/-- The body: the barrier with both neighbours, the scale, the gathering. -/
def body : TProg F :=
  .op .deviceId fun d =>
  .op (.semSignal (Dev.tc ⟨k0_dev1 d, k0_dev1_lt d⟩) barS ((1 : ℕ) : ℤ)) fun _ =>
  .op (.semSignal (Dev.tc ⟨k0_dev2 d, k0_dev2_lt d⟩) barS ((1 : ℕ) : ℤ)) fun _ =>
  .op (.semWait barS ((2 : ℕ) : ℤ)) fun _ =>
  smemLoadElt sM (Rect.unit (s := S1x1) ![0, 0] S1x1.size inb_S1x1_S1x1_0_0) (View.loads_smem_one rfl numel1_S1x1) (Shape.Idx.first (numel1_S1x1.symm ▸ Nat.one_pos)) fun s => gather d s

set_option maxRecDepth 65536 in
/-- The printed body is the structured program. -/
theorem body_eq (h0 : xM.IsWhole) (h1 : wM.IsWhole) (h2 : sM.IsWhole) (h3 : oM.IsWhole) (h4 : (gM false).IsWhole) (h5 : (gM true).IsWhole) :
    cc0_body (F := F) xM h0 wM h1 sM h2 oM h3 (gM false) h4 (gM true) h5 cc0_scratch2 cc0_scratch3 cc0_scratch4 cc0_scratch5 = body := by
  rw [cc0_body_eq_skeleton]
  chain_rfl

end Cert.KernelIdeal.Own
-- ==== Proof.Cells.lean ====
/-
  The protocol of the two rings: the devices and slots each hop touches, the contents every slot ends with, the semaphore
  cells with what each unit on them hands over, the debts at launch and the levels that order the waits.
-/
module

public import proofs.«01_k».proof.Proof.Prog
public import Idealize.ShloMosaic.Lib.Pipeline.Regions
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Ring

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's ghost state beside the rings'. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Devices and slots -/

/-- The device one step on in a direction. -/
def nx (b : Bool) (c : Dev nD) : Dev nD := ⟨(c.val + if b then 7 else 1) % 8, Nat.mod_lt _ (by decide)⟩
/-- The device one step back. -/
abbrev fr (b : Bool) (c : Dev nD) : Dev nD := nx (!b) c
/-- The device whose half block is in hand after `n` hops of a direction: `n` steps back. -/
def org (b : Bool) (c : Dev nD) (n : ℕ) : Dev nD := ⟨(c.val + if b then n else 7 * n) % 8, Nat.mod_lt _ (by decide)⟩

/-- The device after the device before is the device itself. -/
theorem nx_fr : ∀ b c, nx b (fr b c) = c := by decide
/-- The device before the device after is the device itself. -/
theorem fr_nx : ∀ b c, fr b (nx b c) = c := by decide
/-- The steps on and back are a permutation of the devices. -/
def ring (b : Bool) : Dev nD ≃ Dev nD := ⟨nx b, fr b, fr_nx b, nx_fr b⟩

/-- After no hop a device has its own block in hand. -/
theorem org_zero (b : Bool) (c : Dev nD) : org b c 0 = c := by revert b c; decide
/-- What the next device holds one hop later is what this device holds now. -/
theorem org_nx (b : Bool) (c : Dev nD) (n : ℕ) : org b (nx b c) (n + 1) = org b c n := by
  apply Fin.ext; simp only [org, nx]; cases b <;> simp <;> omega
/-- Within eight hops every origin is met once. -/
theorem org_inj (b : Bool) (c : Dev nD) : ∀ i j : Fin 8, org b c i.val = org b c j.val → i = j := by revert b c; decide
/-- Every device's block is in hand after some number of hops. -/
theorem org_surj (b : Bool) (c o : Dev nD) : ∃ n : Fin 8, org b c n.val = o := by revert b c o; decide

/-- The device that the program names as a copy's target is the next one in the copy's direction. -/
theorem dst_eq : ∀ b h c, dst b h c = nx b c := by decide +kernel
/-- The first device that the program signals at the barrier is the one before in the direction of growing numbers. -/
theorem dev1_eq : ∀ c : Dev nD, (⟨k0_dev1 c, k0_dev1_lt c⟩ : Dev nD) = fr false c := by decide +kernel
/-- The second one is the one before in the other direction. -/
theorem dev2_eq : ∀ c : Dev nD, (⟨k0_dev2 c, k0_dev2_lt c⟩ : Dev nD) = fr true c := by decide +kernel

/-- Slot `o` of a gathering buffer. -/
theorem slot_inb : ∀ o : Dev nD, ∀ a, (![o.val, 0, 0] : Fin 3 → ℕ) a + S1x256x4096.size a ≤ S8x256x4096.size a := by decide
abbrev slotR (o : Dev nD) : Rect S8x256x4096 := Rect.unit (s := S8x256x4096) ![o.val, 0, 0] S1x256x4096.size (slot_inb o)
/-- Its elements in the buffer of a direction. -/
def slotS (b : Bool) (o : Dev nD) : Finset (gM b).view.ty.Idx := ((gM b).access (slotR o)).set

/-- The slot that hop `h` sends is that of the block in hand. -/
theorem off_eq : ∀ b h c, off b h c = ![(org b c h.val).val, 0, 0] := by decide +kernel
/-- The first fill goes to the device's own slot. -/
theorem off1_eq (c : Dev nD) : k0_off1 c = ![c.val, 0, 0] := k0_off1_eq c
/-- The product of hop `h` in the direction of growing numbers reads the slot of the block in hand. -/
theorem off4_eq : ∀ c (h : Fin 7), k0_off4 c (BitVec.ofNat 32 h.val) = ![(org false c h.val).val, 0, 0] := by decide +kernel
/-- The same in the other direction. -/
theorem off6_eq : ∀ c (h : Fin 7), k0_off6 c (BitVec.ofNat 32 h.val) = ![(org true c h.val).val, 0, 0] := by decide +kernel
/-- The product of hop `h` in the direction of growing numbers writes the first half of that block's rows of the result. -/
theorem off5_eq : ∀ c (h : Fin 7), k0_off5 c (k0_off5_at h.castSucc).1 (k0_off5_at h.castSucc).2 = ![512 * (org false c h.val).val + 0, 0] := by decide +kernel
/-- In the other direction it writes the second half. -/
theorem off7_eq : ∀ c (h : Fin 7), k0_off7 c (k0_off7_at h.castSucc).1 (k0_off7_at h.castSucc).2 = ![512 * (org true c h.val).val + 256, 0] := by decide +kernel
/-- The last product in the direction of growing numbers reads the slot that arrived last. -/
theorem off6_last : ∀ c, k0_off6 c (BitVec.ofNat 32 (1 : Fin 7).val) = ![(org false c 7).val, 0, 0] := by decide +kernel
/-- The same in the other direction. -/
theorem off4_last : ∀ c, k0_off4 c (BitVec.ofNat 32 (1 : Fin 7).val) = ![(org true c 7).val, 0, 0] := by decide +kernel
/-- The last product in the direction of growing numbers writes the first half of the rows of the block that arrived last. -/
theorem off7_last : ∀ c, k0_off7 c (k0_off7_at 7).1 (k0_off7_at 7).2 = ![512 * (org false c 7).val + 0, 0] := by decide +kernel
/-- In the other direction it writes the second half. -/
theorem off5_last : ∀ c, k0_off5 c (k0_off5_at 7).1 (k0_off5_at 7).2 = ![512 * (org true c 7).val + 256, 0] := by decide +kernel

/-- Two spellings of one offset name the same elements. -/
theorem access_set_congr (b : Bool) {o o' : Fin 3 → ℕ} (h : o = o') (i : ∀ a, o a + S1x256x4096.size a ≤ S8x256x4096.size a)
    (i' : ∀ a, o' a + S1x256x4096.size a ≤ S8x256x4096.size a) :
    ((gM b).access (Rect.unit (s := S8x256x4096) o S1x256x4096.size i)).set = ((gM b).access (Rect.unit (s := S8x256x4096) o' S1x256x4096.size i')).set := by
  subst h; rfl

/-- Two spellings of one offset name the same elements in the same order. -/
theorem access_emb_congr (b : Bool) {o o' : Fin 3 → ℕ} (h : o = o') (i : ∀ a, o a + S1x256x4096.size a ≤ S8x256x4096.size a)
    (i' : ∀ a, o' a + S1x256x4096.size a ≤ S8x256x4096.size a) (x : S1x256x4096.Idx) :
    ((gM b).access (Rect.unit (s := S8x256x4096) o S1x256x4096.size i)).emb x = ((gM b).access (Rect.unit (s := S8x256x4096) o' S1x256x4096.size i')).emb x := by
  subst h; rfl

/-- The elements of the slot that hop `h` sends. -/
theorem slotM_set (b : Bool) (h : Fin 7) (c : Dev nD) : (slotM b h c).view.set = slotS b (org b c h.val) := by
  refine (View.set_reshape _ _).trans ?_
  exact access_set_congr b (off_eq b h c) _ _

/-! ## Contents -/

/-- The rows of a direction's halves within a block begin at 0 and at 256. -/
abbrev lead (b : Bool) : ℕ := if b then 256 else 0
/-- A half begins in the first half of a block's rows, or where the second begins. -/
theorem lead_le (b : Bool) : lead b ≤ 256 := by cases b <;> decide

section Contents

variable (X : Dev nD → S512x4096.Idx → Elt F .fp8e5m2)

/-- A gathering buffer filled: slot `o` holds device `o`'s half block. -/
def gath (b : Bool) : S8x256x4096.Idx → Elt F .fp8e5m2 :=
  fun i => X (i 0) (Fin.cons (⟨lead b + (i 1).val, by have h1 : (i 1).val < 256 := (i 1).isLt; have := lead_le b; show _ < 512; omega⟩ : Fin 512) (Fin.cons (i 2 : Fin 4096) finZeroElim))
/-- The same as contents of the direction's buffer. -/
def full : (b : Bool) → (gM b).view.ty.Contents (Elt F)
  | false => gath X false
  | true => gath X true

/-- A filled buffer read whole. -/
theorem read_full (b : Bool) : (gM b).view.read (Elt F) (full X b) = gath X b := by cases b <;> rfl

/-- Slot `o` of direction `b` on device `d`, at a share, at contents. -/
def slotP (b : Bool) (d o : Dev nD) (q : PosShare TreeShare) (f : Buf (Elt F) ((gM b).view.loc (d : Thread nD τ))) : sProp 𝕄 :=
  (gM b).view.loc (d : Thread nD τ) ↦[slotS b o]{q} f
/-- Slot `o` at contents not chosen. -/
def slotA (b : Bool) (d o : Dev nD) : sProp 𝕄 := iprop(∃ f, slotP (F := F) b d o fullShare f)

/-! ## The cells -/

/-- What a semaphore is for. -/
inductive Use where
  | bar
  | snd (b : Bool) (h : Fin 7)
  | rcv (b : Bool) (h : Fin 7)
  | other
deriving DecidableEq

/-- The use of each semaphore. -/
def useOf : SemLoc sig → Use
  | .reg s => if s = barS then .bar else .other
  | .dma i =>
    if i.val < 4 then .other
    else if i.val < 11 then .snd false (Fin.ofNat 7 (i.val - 4))
    else if i.val < 18 then .rcv false (Fin.ofNat 7 (i.val - 11))
    else if i.val < 25 then .snd true (Fin.ofNat 7 (i.val - 18))
    else .rcv true (Fin.ofNat 7 (i.val - 25))

abbrev barC (c : Dev nD) : GSem nD τ sig := ((c : Thread nD τ), .reg barS)
abbrev sC (b : Bool) (c : Dev nD) (h : Fin 7) : GSem nD τ sig := ((c : Thread nD τ), .dma (sSem b h))
abbrev rC (b : Bool) (c : Dev nD) (h : Fin 7) : GSem nD τ sig := ((c : Thread nD τ), .dma (rSem b h))

/-- The barrier's semaphore is used as such. -/
theorem use_bar : useOf (.reg barS) = .bar := by decide +kernel
/-- The semaphore by which a device learns that its copy of hop `h` has left. -/
theorem use_snd : ∀ b h, useOf (.dma (sSem b h)) = .snd b h := by decide +kernel
/-- The semaphore by which a device learns that the copy of hop `h` has arrived. -/
theorem use_rcv : ∀ b h, useOf (.dma (rSem b h)) = .rcv b h := by decide +kernel

/-- The units one copy of a slot is worth. -/
def Nc (b : Bool) : ℕ := (slotM b 0 0).view.dmaCredit
/-- A copy signals a positive amount. -/
theorem Nc_pos (b : Bool) : 0 < Nc b := View.dmaCredit_pos _ (by decide)
/-- Every copy of a direction signals the same amount. -/
theorem amount_eq (b : Bool) (h : Fin 7) (c : Dev nD) (sm : DmaSem sig) : (slotM b h c).view.amount (.dma sm) = Nc b := rfl

/-- The barrier unit of direction `b` hands device `c` the slots of its next device's buffer that its copies fill, with
    the facts that the cells those copies credit are open. -/
def barPay (c : Dev nD) (b : Bool) : sProp 𝕄 :=
  bigSep Finset.univ fun h : Fin 7 => iprop(slotA (F := F) b (nx b c) (org b c h.val) ∗ reached ER (rC b (nx b c) h) 0)

/-- A copy that has left returns the half share of its source; one that has arrived hands over the slot it filled. -/
def payOf (c : Dev nD) (d : Bool) : Use → sProp 𝕄
  | .bar => barPay c d
  | .snd b h => slotP b c (org b c h.val) fullShare.left (full X b)
  | .rcv b h => slotP b c (org b c (h.val + 1)) fullShare (full X b)
  | .other => iprop(emp)

/-- Every cell has one round: two duties on a barrier cell, one per direction, and one on every copy's cell. -/
def Rd : Rounds.Schedule (GSem nD τ sig) Bool 𝕄 where
  duties g r := if r = 0 ∧ g.1.2 = .tc then (match useOf g.2 with | .bar => Finset.univ | .other => ∅ | _ => {false}) else ∅
  unitless _ := False
  amount g _ _ := match useOf g.2 with | .bar => 1 | .snd b _ => Nc b | .rcv b _ => Nc b | .other => 1
  payload g _ d := payOf X g.1.1 d (useOf g.2)
  amount_pos g _ _ _ := by cases useOf g.2 <;> first | exact Nat.one_pos | exact Nc_pos _

instance payOf_storable (c : Dev nD) (d : Bool) (u : Use) : BI.Storable (upEmb : UEmb _ 𝕄) (payOf X c d u) := by
  cases u <;> simp only [payOf, barPay, slotA, slotP] <;> infer_instance
instance Rd_storable (g : GSem nD τ sig) (r : ℕ) (d : Bool) : BI.Storable (upEmb : UEmb _ 𝕄) ((Rd (F := F) X).payload g r d) :=
  payOf_storable X g.1.1 d (useOf g.2)

section Tables

variable (b : Bool) (c : Dev nD) (h : Fin 7)

/-- At its barrier a device is paid by both neighbours. -/
theorem duties_bar : (Rd X).duties (barC c) 0 = Finset.univ := by
  dsimp only [Rd]; rw [if_pos ⟨rfl, rfl⟩, use_bar]
/-- A semaphore of a copy that leaves is paid once. -/
theorem duties_snd : (Rd X).duties (sC b c h) 0 = {false} := by
  dsimp only [Rd]; rw [if_pos ⟨rfl, rfl⟩, use_snd]
/-- A semaphore of a copy that arrives is paid once. -/
theorem duties_rcv : (Rd X).duties (rC b c h) 0 = {false} := by
  dsimp only [Rd]; rw [if_pos ⟨rfl, rfl⟩, use_rcv]
/-- No cell has a second round. -/
theorem duties_later (g : GSem nD τ sig) : ∀ r, 1 ≤ r → (Rd X).duties g r = ∅ := fun r hr => by
  dsimp only [Rd]; exact if_neg fun h => by omega

/-- A neighbour pays one unit at the barrier. -/
theorem amount_bar (d : Bool) : (Rd X).amount (barC c) 0 d = 1 := by dsimp only [Rd]; rw [use_bar]
/-- A copy that has left pays its amount. -/
theorem amount_snd (d : Bool) : (Rd X).amount (sC b c h) 0 d = Nc b := by dsimp only [Rd]; rw [use_snd]
/-- A copy that has arrived pays its amount. -/
theorem amount_rcv (d : Bool) : (Rd X).amount (rC b c h) 0 d = Nc b := by dsimp only [Rd]; rw [use_rcv]

/-- The barrier's wait is for two units. -/
theorem expect_bar : (Rd X).expect (barC c) 0 = 2 := by
  unfold Schedule.expect Schedule.amountOf; rw [duties_bar, Finset.sum_congr rfl fun d _ => amount_bar X c d]; rfl
/-- The wait for a copy to leave is for that copy's amount. -/
theorem expect_snd : (Rd X).expect (sC b c h) 0 = Nc b := by
  unfold Schedule.expect Schedule.amountOf; rw [duties_snd, Finset.sum_singleton, amount_snd]
/-- The wait for a copy to arrive is for that copy's amount. -/
theorem expect_rcv : (Rd X).expect (rC b c h) 0 = Nc b := by
  unfold Schedule.expect Schedule.amountOf; rw [duties_rcv, Finset.sum_singleton, amount_rcv]

/-- What a neighbour hands over at the barrier. -/
theorem payload_bar (d : Bool) : (Rd X).payload (barC c) 0 d = barPay c d := by dsimp only [Rd]; rw [use_bar]; rfl
/-- A copy that has left gives back its share of the slot that it read. -/
theorem payload_snd (d : Bool) : (Rd X).payload (sC b c h) 0 d = slotP b c (org b c h.val) fullShare.left (full X b) := by
  dsimp only [Rd]; rw [use_snd]; rfl
/-- A copy that has arrived hands over the slot that it filled. -/
theorem payload_rcv (d : Bool) : (Rd X).payload (rC b c h) 0 d = slotP b c (org b c (h.val + 1)) fullShare (full X b) := by
  dsimp only [Rd]; rw [use_rcv]; rfl

/-- What the barrier's wait brings: what both neighbours hand over. -/
theorem rest_bar : bigSep ((Rd X).duties (barC c) 0 \ ∅) (fun d => (Rd X).payload (barC c) 0 d) = iprop(barPay (F := F) c false ∗ barPay c true) := by
  rw [Finset.sdiff_empty, duties_bar, show (Finset.univ : Finset Bool) = {false, true} from by decide, bigSep_insert (by decide), bigSep_singleton,
    payload_bar, payload_bar]; rfl
/-- What the wait for a copy to leave brings. -/
theorem rest_snd : bigSep ((Rd X).duties (sC b c h) 0 \ ∅) (fun d => (Rd X).payload (sC b c h) 0 d) = slotP b c (org b c h.val) fullShare.left (full X b) := by
  rw [Finset.sdiff_empty, duties_snd, bigSep_singleton, payload_snd]
/-- What the wait for a copy to arrive brings. -/
theorem rest_rcv : bigSep ((Rd X).duties (rC b c h) 0 \ ∅) (fun d => (Rd X).payload (rC b c h) 0 d) = slotP b c (org b c (h.val + 1)) fullShare (full X b) := by
  rw [Finset.sdiff_empty, duties_rcv, bigSep_singleton, payload_rcv]

/-- After its one round a cell closes, its counter back at zero. -/
theorem close (κ : ℕ) (g : GSem nD τ sig) : iprop(cellInv ER (Rd X) κ g ∗ atPos ER g (0 + 1) ∅ 0) ⊢ (|={Set.univ}=> semVal g 0 : sProp 𝕄) :=
  Rounds.cell_close ER (Rd X) (Set.mem_univ κ) id (duties_later X g)

end Tables

end Contents

/-! ## Debts and levels -/

/-- The hops from `n` on, and those before. -/
def from' (n : ℕ) : Finset (Fin 7) := Finset.univ.filter fun h => n ≤ h.val
def upto (n : ℕ) : Finset (Fin 7) := Finset.univ.filter fun h => h.val < n
/-- The hops from `h` on are `h` and the hops after it. -/
theorem from_step (h : Fin 7) : from' h.val = insert h (from' (h.val + 1)) ∧ h ∉ from' (h.val + 1) := by revert h; decide
/-- The hops up to and with `h` are `h` and the hops before it. -/
theorem upto_step (h : Fin 7) : upto (h.val + 1) = insert h (upto h.val) ∧ h ∉ upto h.val := by revert h; decide
/-- All hops are from the first on. -/
theorem from_zero : from' 0 = Finset.univ := by decide
/-- No hop comes after the last. -/
theorem from_seven : from' 7 = ∅ := by decide
/-- No hop comes before the first. -/
theorem upto_zero : upto 0 = ∅ := by decide
/-- After the last hop all are done. -/
theorem upto_seven : upto 7 = Finset.univ := by decide

/-- The credit of hop `h`'s copy in a direction, owed to the next device. -/
def owe (b : Bool) (c : Dev nD) (h : Fin 7) : CellTallies nD τ sig Unit := tallyAt (rC b (nx b c) h) () (Nc b)
/-- What device `c` still owes its neighbours before hop `n`. -/
def debt (c : Dev nD) (n : ℕ) : CellTallies nD τ sig Unit := ∑ h ∈ from' n, (owe true c h + owe false c h)
/-- What it owes at launch: that, and a barrier unit to each neighbour. -/
def O₀ (c : Dev nD) : CellTallies nD τ sig Unit := debt c 0 + tallyAt (barC (fr true c)) () 1 + tallyAt (barC (fr false c)) () 1

/-- What a device owes before hop `h` is what it owes for this hop's two copies and what it owes after it. -/
theorem debt_step (c : Dev nD) (h : Fin 7) : debt c h.val = debt c (h.val + 1) + owe true c h + owe false c h := by
  unfold debt; rw [(from_step h).1, Finset.sum_insert (from_step h).2, add_comm, add_assoc]
/-- After the last hop nothing is owed. -/
theorem debt_seven (c : Dev nD) : debt c 7 = 0 := by unfold debt; rw [from_seven, Finset.sum_empty]

/-- Cells off the TensorCores have no index. -/
def L (g : GSem nD τ sig) : Finset Unit := if g.1.2 = .tc then {()} else ∅
/-- Staging and departures first, then the barrier, then the arrivals hop by hop. -/
def lv (g : GSem nD τ sig) (_ : Unit) : ℕ := match useOf g.2 with | .bar => 1 | .rcv _ h => 2 + h.val | _ => 0

/-- Only cells of the tensor cores' threads have levels. -/
theorem L_of_ne (g : GSem nD τ sig) (h : g.1.2 ≠ .tc) : L g = ∅ := if_neg h
/-- A cell of a tensor core's thread has one level. -/
theorem L_tc (c : Dev nD) (sm : SemLoc sig) : L ((c : Thread nD τ), sm) = {()} := if_pos rfl

/-- What is owed before hop `n` is on arrival cells of hop `n` or later. -/
theorem debt_pos (c : Dev nD) (n : ℕ) (g : GSem nD τ sig) (u : Unit) (hg : 0 < debt c n g u) : ∃ b h, n ≤ h.val ∧ g = rC b (nx b c) h := by
  unfold debt at hg
  rw [Finset.sum_apply, Finset.sum_apply'] at hg
  obtain ⟨h, hh, hp⟩ := Finset.exists_ne_zero_of_sum_ne_zero (Nat.pos_iff_ne_zero.mp hg)
  have hn : n ≤ h.val := (Finset.mem_filter.mp hh).2
  rw [Pi.add_apply, Finsupp.add_apply] at hp
  unfold owe at hp
  rw [tallyAt_apply, tallyAt_apply] at hp
  by_cases h1 : g = rC true (nx true c) h ∧ u = ()
  · exact ⟨true, h, hn, h1.1⟩
  by_cases h2 : g = rC false (nx false c) h ∧ u = ()
  · exact ⟨false, h, hn, h2.1⟩
  rw [if_neg h1, if_neg h2] at hp; exact absurd rfl hp

/-- A cell of a level below the owed arrivals may be waited on. -/
theorem mayWait (c : Dev nD) (sm : SemLoc sig) (n : ℕ) (hl : lv ((c : Thread nD τ), sm) () < 2 + n) :
    (levAts L lv : sProp 𝕄) ⊢ MayWait (c : Thread nD τ) sm () (debt c n) :=
  MayOwe.of_cut (L := L) (lev := lv) (1 + n) (fun p hp => by rw [Finset.mem_singleton.mp hp, L_tc]; exact Finset.mem_singleton_self _)
    (fun g u hg => by obtain ⟨b, h, -, rfl⟩ := debt_pos c n g u hg; rw [L_tc]; exact Finset.mem_singleton_self _)
    (fun p hp => by rw [Finset.mem_singleton.mp hp]; show lv ((c : Thread nD τ), sm) () ≤ _; omega)
    (fun g u hg => by obtain ⟨b, h, hn, rfl⟩ := debt_pos c n g u hg; dsimp only [lv]; rw [use_rcv]; show _ < 2 + h.val; omega)

/-- The barrier is at level 1. -/
theorem lv_bar (c : Dev nD) : lv (barC c) () = 1 := by dsimp only [lv]; rw [use_bar]
/-- The cells of copies that leave are at level 0. -/
theorem lv_snd (b : Bool) (c : Dev nD) (h : Fin 7) : lv (sC b c h) () = 0 := by dsimp only [lv]; rw [use_snd]
/-- The cell of the copy that arrives in hop `h` is at level 2 + `h`. -/
theorem lv_rcv (b : Bool) (c : Dev nD) (h : Fin 7) : lv (rC b c h) () = 2 + h.val := by dsimp only [lv]; rw [use_rcv]

end Cert.KernelIdeal.Own
-- ==== Proof.Hop.lean ====
/-
  One hop of the rings on one device: what the result holds after some slots were computed with, and the runs of a
  computation, of the copy out of a slot, of the waits, and of the filling of the own slot.
-/
module

public import proofs.«01_k».proof.Proof.Cells
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The cells in two lists -/

/-- Each device's barrier cell. -/
def barEmb : Dev nD ↪ GSem nD τ sig := ⟨barC, fun a b h => congrArg (fun g : GSem nD τ sig => g.1.1) h⟩
/-- The semaphores of the copies: departure or arrival, direction, hop. -/
abbrev semOf (x : Bool × Bool × Fin 7) : DmaSem sig := if x.1 then rSem x.2.1 x.2.2 else sSem x.2.1 x.2.2
/-- The copies use different semaphores. -/
theorem semOf_inj : Function.Injective semOf := by unfold Function.Injective; decide +kernel
abbrev cellAt (c : Dev nD) (x : Bool × Bool × Fin 7) : GSem nD τ sig := ((c : Thread nD τ), .dma (semOf x))
/-- Each copy's cell on each device. -/
def scEmb : Dev nD × (Bool × Bool × Fin 7) ↪ GSem nD τ sig :=
  ⟨fun p => cellAt p.1 p.2, fun p q h => Prod.ext (congrArg (fun g : GSem nD τ sig => g.1.1) h)
    (semOf_inj (SemLoc.dma.inj (congrArg (fun g : GSem nD τ sig => g.2) h)))⟩
def barCells : Finset (GSem nD τ sig) := Finset.univ.map barEmb
def scCells : Finset (GSem nD τ sig) := Finset.univ.map scEmb

/-- A barrier's cell is one of the protocol's cells. -/
theorem bar_mem (c : Dev nD) : barC c ∈ (barCells ∪ scCells : Finset (GSem nD τ sig)) :=
  Finset.mem_union_left _ (Finset.mem_map_of_mem barEmb (Finset.mem_univ c))
/-- So is the cell of a copy that leaves. -/
theorem snd_mem (b : Bool) (c : Dev nD) (h : Fin 7) : sC b c h ∈ (barCells ∪ scCells : Finset (GSem nD τ sig)) :=
  Finset.mem_union_right _ (Finset.mem_map_of_mem scEmb (Finset.mem_univ (c, (false, b, h))))
/-- So is the cell of a copy that arrives. -/
theorem rcv_mem (b : Bool) (c : Dev nD) (h : Fin 7) : rC b c h ∈ (barCells ∪ scCells : Finset (GSem nD τ sig)) :=
  Finset.mem_union_right _ (Finset.mem_map_of_mem scEmb (Finset.mem_univ (c, (true, b, h))))

/-! ## The result in part -/

/-- The half, the block and the place within the half that a row of the result belongs to. -/
def hb (i : S4096x1024.Idx) : Bool := decide (256 ≤ (i 0).val % 512)
def ko (i : S4096x1024.Idx) : Dev nD := ⟨(i 0).val / 512, by have h : (i 0).val < 4096 := (i 0).isLt; show _ < 8; omega⟩
def lc (i : S4096x1024.Idx) : S256x1024.Idx :=
  Fin.cons (⟨(i 0).val % 256, Nat.mod_lt _ (by decide)⟩ : Fin 256) (Fin.cons (i 1 : Fin 1024) finZeroElim)

/-- A row of the result from its block, its half and its place in the half. -/
theorem ix_of (i : S4096x1024.Idx) : (i 0).val = (512 * (ko i).val + lead (hb i)) + (lc i 0).val ∧ (i 1).val = (lc i 1).val := by
  refine ⟨?_, rfl⟩
  show (i 0).val = (512 * ((i 0).val / 512) + lead (hb i)) + (i 0).val % 256
  unfold lead hb
  by_cases h : 256 ≤ (i 0).val % 512
  · rw [decide_eq_true h, if_pos rfl]; omega
  · rw [decide_eq_false h, if_neg (by decide)]; omega

/-- The block, the half and the place within it are determined by the row. -/
theorem ix_eq (i : S4096x1024.Idx) (b : Bool) (k : Dev nD) (x : S256x1024.Idx)
    (h0 : (i 0).val = (512 * k.val + lead b) + (x 0).val) (h1 : (i 1).val = (x 1).val) : hb i = b ∧ ko i = k ∧ lc i = x := by
  have hx : (x 0).val < 256 := (x 0).isLt
  have hl := lead_le b
  refine ⟨?_, Fin.ext ?_, ?_⟩
  · unfold hb; rw [h0]
    cases b
    · exact decide_eq_false (by show ¬ 256 ≤ (512 * k.val + 0 + _) % 512; omega)
    · exact decide_eq_true (by show 256 ≤ (512 * k.val + 256 + _) % 512; omega)
  · show (i 0).val / 512 = k.val; rw [h0]; omega
  · funext a
    have ha : a = 0 ∨ a = 1 := by revert a; decide
    rcases ha with rfl | rfl
    · apply Fin.ext; show (i 0).val % 256 = (x 0).val; rw [h0]; cases b <;> simp only [lead] <;> simp <;> omega
    · exact Fin.ext h1

section Run

variable (X : Dev nD → S512x4096.Idx → Elt F .fp8e5m2) (U : S4096x1024.Idx → Elt F .fp8e5m2) (s : Elt F .f32)

/-- Slot `o` of a filled gathering buffer, as a load returns it. -/
def slotV (b : Bool) (o : Dev nD) : Vec F S1x256x4096 .fp8e5m2 := fun j => gath X b ((slotR o).emb j)
/-- The result: each row computed from the slot it belongs to. -/
def outV : S4096x1024.Idx → Elt F .f32 := fun i => payC s (slotV X (hb i) (ko i)) U (lc i)
/-- The slots of `D` have been computed with. -/
def Done (D : Finset (Bool × Dev nD)) (g : S4096x1024.Idx → Elt F .f32) : Prop := ∀ i, (hb i, ko i) ∈ D → g i = outV X U s i

/-- Before any computation nothing is asked of the result. -/
theorem done_empty (g : S4096x1024.Idx → Elt F .f32) : Done X U s ∅ g := fun _ h => absurd h (Finset.notMem_empty _)

/-- A computation's store adds its slot. -/
theorem done_step (D : Finset (Bool × Dev nD)) (g : S4096x1024.Idx → Elt F .f32) (h : Done X U s D g) (b : Bool) (k : Dev nD)
    (hp : ∀ a, (![512 * k.val + lead b, 0] : Fin 2 → ℕ) a + S256x1024.size a ≤ S4096x1024.size a) :
    Done X U s (insert (b, k) D)
      ((oM.access (Rect.unit (s := S4096x1024) ![512 * k.val + lead b, 0] S256x1024.size hp)).write (Elt F) g (payC s (slotV X b k) U) Finset.univ) := by
  intro i hi
  by_cases hm : i ∈ (oM.access (Rect.unit (s := S4096x1024) ![512 * k.val + lead b, 0] S256x1024.size hp)).set
  · obtain ⟨x, -, rfl⟩ := Finset.mem_map.mp hm
    obtain ⟨e1, e2, e3⟩ := ix_eq ((oM.access (Rect.unit (s := S4096x1024) ![512 * k.val + lead b, 0] S256x1024.size hp)).emb x) b k x
      (by show _ + 1 * _ = _; rw [Nat.one_mul]; rfl) (by show 0 + 1 * _ = _; rw [Nat.one_mul, Nat.zero_add])
    rw [View.write_emb_of_mem _ _ (Finset.mem_univ x)]
    unfold outV; rw [e1, e2, e3]; rfl
  · rw [View.write_of_not_mem _ _ _ hm]
    refine h i ((Finset.mem_insert.mp hi).resolve_left fun he => hm ?_)
    have e1 : hb i = b := congrArg Prod.fst he
    have e2 : ko i = k := congrArg Prod.snd he
    obtain ⟨a0, a1⟩ := ix_of i
    rw [e1, e2] at a0
    refine Finset.mem_map.mpr ⟨lc i, Finset.mem_univ _, funext fun a => Fin.ext ?_⟩
    have ha : a = 0 ∨ a = 1 := by revert a; decide
    rcases ha with rfl | rfl
    · show _ + 1 * _ = _; rw [Nat.one_mul]; exact a0.symm
    · show 0 + 1 * _ = _; rw [Nat.one_mul, Nat.zero_add]; exact a1.symm

variable (c : Dev nD)

/-- The staged weights. -/
abbrev wPts : sProp 𝕄 := ((c : Thread nD τ).loc cc0_stg1_0) ↦{fullShare} U
/-- The staged result with the slots of `D` in place. -/
def oPts (D : Finset (Bool × Dev nD)) : sProp 𝕄 :=
  iprop(∃ g : S4096x1024.Idx → Elt F .f32, ⌜Done X U s D g⌝ ∗ (((c : Thread nD τ).loc cc0_stg3_0) ↦{fullShare} g))

abbrev WP (p : TProg F) (Kt : PUnit → sProp 𝕄) : sProp 𝕄 := wp frame (wpE (defs₀ (F := F)) 𝒱₀ (c : Thread nD τ) none) Set.univ p Kt

/-- A computation, at offsets named by the slot, at any share of the slot. -/
theorem compute_wp (b : Bool) (k : Dev nD) (o : Fin 3 → ℕ) (ho) (p : Fin 2 → ℕ) (hp) (eo : o = ![k.val, 0, 0]) (ep : p = ![512 * k.val + lead b, 0])
    (q : PosShare TreeShare) (D : Finset (Bool × Dev nD)) (rest : TProg F) (Kt : PUnit → sProp 𝕄) :
    iprop(slotP b c k q (full X b) ∗ wPts U c ∗ oPts X U s c D)
      ⊢ iprop((iprop(slotP b c k q (full X b) ∗ wPts U c ∗ oPts X U s c (insert (b, k) D)) -∗ WP c rest Kt)
          -∗ WP c (compute b o ho p hp s rest) Kt) := by
  subst eo ep
  unfold compute slotP oPts
  iintro ⟨Hs, Hw, %g, %hg, Ho⟩ Hk
  iapply (wp_load_rect 𝒱₀ (c : Thread nD τ) none Set.univ (m := gM b) (r := slotR k) (S := slotS b k) (fun _ h => h)) $$ Hs
  iintro Hs
  iapply (wp_load_rect 𝒱₀ (c : Thread nD τ) none Set.univ (m := wM) (r := Rect.unit (s := S4096x1024) ![0, 0] S4096x1024.size inb_S4096x1024_S4096x1024_0_0)
      (S := Finset.univ) (q := fullShare) (f := U) (Finset.subset_univ _)) $$ Hw
  iintro Hw
  iapply (wp_load_rect 𝒱₀ (c : Thread nD τ) none Set.univ (m := oM) (r := Rect.unit (s := S4096x1024) _ S256x1024.size hp)
      (S := Finset.univ) (q := fullShare) (f := g) (Finset.subset_univ _)) $$ Ho
  iintro Ho
  iapply (wp_store 𝒱₀ (c : Thread nD τ) none Set.univ (m := oM) (r := Rect.unit (s := S4096x1024) _ S256x1024.size hp)
      (S := Finset.univ) (f := g) (Finset.subset_univ _)) $$ Ho
  iintro Ho
  iapply Hk
  isplitl [Hs]; · iexact Hs
  isplitl [Hw]; · iexact Hw
  iexists _
  isplitr
  rotate_left
  · iexact Ho
  · ipureintro
    have e1 : ((gM b).access (slotR k)).read (Elt F) (full X b) = slotV X b k := by cases b <;> rfl
    have e2 : (wM.access (Rect.unit (s := S4096x1024) ![0, 0] S4096x1024.size inb_S4096x1024_S4096x1024_0_0)).read (Elt F) U = U := by
      funext i
      show U _ = U i
      congr 1; funext a
      have ha : a = 0 ∨ a = 1 := by revert a; decide
      rcases ha with rfl | rfl <;> exact Fin.ext (by show 0 + 1 * _ = _; rw [Nat.one_mul, Nat.zero_add])
    rw [e1, e2]
    exact done_step X U s D g hg b k hp

/-- Every cell's invariant, under one map of names. -/
def recs (K : GSem nD τ sig → ℕ) : sProp 𝕄 := bigSep (barCells ∪ scCells) fun g => cellInv ER (Rd X) (K g) g
instance recs_persistent (K : GSem nD τ sig → ℕ) : BI.Persistent (recs X K) := by unfold recs; infer_instance
/-- The protocol's invariant of a barrier's cell, from the record of all. -/
theorem recs_bar (K : GSem nD τ sig → ℕ) (d : Dev nD) : recs X K ⊢ cellInv ER (Rd X) (K (barC d)) (barC d) := bigSep_elim (bar_mem d)
/-- The same for the cell of a copy that leaves. -/
theorem recs_snd (K : GSem nD τ sig → ℕ) (b : Bool) (d : Dev nD) (h : Fin 7) : recs X K ⊢ cellInv ER (Rd X) (K (sC b d h)) (sC b d h) :=
  bigSep_elim (snd_mem b d h)
/-- The same for the cell of a copy that arrives. -/
theorem recs_rcv (K : GSem nD τ sig → ℕ) (b : Bool) (d : Dev nD) (h : Fin 7) : recs X K ⊢ cellInv ER (Rd X) (K (rC b d h)) (rC b d h) :=
  bigSep_elim (rcv_mem b d h)

/-- A slot named by the hop that sends it. -/
theorem slotM_pts (b : Bool) (h : Fin 7) (d e : Dev nD) (q : PosShare TreeShare) (f : Buf (Elt F) ((gM b).view.loc (e : Thread nD τ))) :
    slotP b e (org b d h.val) q f = ((slotM b h d).view.loc (e : Thread nD τ) ↦[(slotM b h d).view.set]{q} f : sProp 𝕄) := by
  unfold slotP; rw [← slotM_set]

/-- A copy between slots of two filled buffers leaves the slot filled. -/
theorem landed (b : Bool) (h : Fin 7) (d e : Dev nD) (f : Buf (Elt F) ((gM b).view.loc (e : Thread nD τ))) :
    ((slotM b h d).view.loc (e : Thread nD τ) ↦[(slotM b h d).view.set]{fullShare}
        ((slotM b h d).view.write (Elt F) f ((slotM b h d).view.read (Elt F) (full X b)) Finset.univ) : sProp 𝕄)
      = slotP b e (org b d h.val) fullShare (full X b) := by
  rw [slotM_pts]
  refine pointsTo_congr fun i hi => ?_
  rw [View.write_read_eq_piecewise]
  exact Finset.piecewise_eq_of_mem _ _ _ hi

/-- The copy of a hop: half the slot's share goes with it, the other half stays to be read. -/
theorem send_wp (K : GSem nD τ sig → ℕ) (b : Bool) (h : Fin 7) (O : CellTallies nD τ sig Unit) (W : Waits sig Unit) (rest : TProg F) (Kt : PUnit → sProp 𝕄) :
    iprop(recs X K ∗ slotP b c (org b c h.val) fullShare (full X b) ∗ slotA (F := F) b (nx b c) (org b c h.val) ∗ owes (c : Thread nD τ) (O + owe b c h) W
        ∗ dutyTok ER (sC b c h) 0 false ∗ reached ER (sC b c h) 0 ∗ dutyTok ER (rC b (nx b c) h) 0 false ∗ reached ER (rC b (nx b c) h) 0)
      ⊢ iprop((iprop(cred (tallyAt (sC b c h) () (Nc b)) ∗ owes (c : Thread nD τ) O W ∗ slotP b c (org b c h.val) fullShare.right (full X b)) -∗ WP c rest Kt)
          -∗ WP c (send b h c rest) Kt) := by
  unfold send
  rw [dst_eq]
  unfold sendTo slotA
  iintro ⟨#HR, Hs, ⟨%f, Hd⟩, HO, HtS, #HrS, HtR, #HrR⟩ Hk
  ihave Hs' := (Entails.of_eq (slotM_pts b h c c fullShare (full X b))) $$ Hs
  ihave Hs2 := (pointsTo_share (PosShare.mem_left_op_right fullShare)).1 $$ Hs'
  icases Hs2 with ⟨Hl, Hr⟩
  ihave Hd' := (Entails.of_eq (slotM_pts b h c (nx b c) fullShare f)) $$ Hd
  iapply (Rounds.wp_send_pointsTo 𝒱₀ ER (Rd X) (c : Thread nD τ) none (c' := (nx b c : Thread nD τ)) (src := slotM b h c) (dst := slotM b h c)
      (sS := .dma (sSem b h)) (sem := .dma (rSem b h)) (q := fullShare.left) (fs := full X b) (fd := f) (κ₁ := K (sC b c h)) (κ₂ := K (rC b (nx b c) h))
      (r₁ := 0) (r₂ := 0) (d₁ := false) (d₂ := false)
      (by rw [duties_snd]; exact Finset.mem_singleton_self _) (by rw [duties_rcv]; exact Finset.mem_singleton_self _)
      () () (Nc b) (amount_eq b h c _) (amount_snd X b c h false) (amount_rcv X b (nx b c) h false) O rfl (W := W)
      (by rw [payload_snd, slotM_pts])
      (by rw [payload_rcv, org_nx, landed])) $$ [Hl Hd' HO HtS HtR]
  · isplitr; · iapply (recs_snd X K b c h); iexact HR
    isplitr; · iapply (recs_rcv X K b (nx b c) h); iexact HR
    isplitl [Hl]; · iexact Hl
    isplitl [Hd']; · iexact Hd'
    isplitl [HO]; · iexact HO
    isplitl [HtS]; · iexact HtS
    isplitr; · iexact HrS
    isplitl [HtR]; · iexact HtR
    iexact HrR
  iintro ⟨HcS, HO⟩
  iapply Hk
  isplitl [HcS]; · iexact HcS
  isplitl [HO]; · iexact HO
  iapply (Entails.of_eq (slotM_pts b h c c fullShare.right (full X b)).symm)
  iexact Hr

/-- The waits of a hop: the lent half share comes back, the next slot is in hand, and both cells are closed. -/
theorem waits_wp (K : GSem nD τ sig → ℕ) (b : Bool) (h : Fin 7) (W : Waits sig Unit) (rest : TProg F) (Kt : PUnit → sProp 𝕄) :
    iprop(recs X K ∗ levAts L lv ∗ cred (tallyAt (sC b c h) () (Nc b)) ∗ cred (tallyAt (rC b c h) () (Nc b)) ∗ owes (c : Thread nD τ) (debt c (h.val + 1)) W
        ∗ atPos ER (sC b c h) 0 ∅ 0 ∗ atPos ER (rC b c h) 0 ∅ 0 ∗ slotP b c (org b c h.val) fullShare.right (full X b))
      ⊢ iprop((iprop((∃ W', owes (c : Thread nD τ) (debt c (h.val + 1)) W') ∗ semVal (sC b c h) 0 ∗ semVal (rC b c h) 0
            ∗ slotP b c (org b c h.val) fullShare (full X b) ∗ slotP b c (org b c (h.val + 1)) fullShare (full X b)) -∗ WP c rest Kt)
          -∗ WP c (waits b h c rest) Kt) := by
  unfold waits
  iintro ⟨#HR, #HL, HcS, HcR, HO, HaS, HaR, Hr⟩ Hk
  iapply (Rounds.wp_wait_rest_token 𝒱₀ ER (Rd X) (c : Thread nD τ) none (κ := K (sC b c h))
      (wpE_waitDma2_eq (src := slotM b h c) (dst := slotM b h c) 𝒱₀ (c : Thread nD τ) none Set.univ) (Set.mem_univ _) () (O := debt c (h.val + 1)) (W := W) (R := 0) (m := 0) (T := ∅)
      ((Nat.zero_add _).trans (expect_snd X b c h).symm)) $$ [HcS HO HaS]
  · isplitr; · iapply (recs_snd X K b c h); iexact HR
    isplitl [HcS]; · iexact HcS
    isplitl [HO]; · iexact HO
    isplitr; · iapply (mayWait c (.dma (sSem b h)) (h.val + 1) (by rw [lv_snd]; omega)); iexact HL
    iexact HaS
  iintro ⟨HO, HaS, -, Hp⟩
  ihave Hl := (Entails.of_eq (rest_snd X b c h)) $$ Hp
  iapply (Rounds.wp_wait_rest_token 𝒱₀ ER (Rd X) (c : Thread nD τ) none (κ := K (rC b c h))
      (wpE_waitDma2_eq (src := slotM b h c) (dst := slotM b h c) 𝒱₀ (c : Thread nD τ) none Set.univ) (Set.mem_univ _) () (O := debt c (h.val + 1)) (R := 0) (m := 0) (T := ∅)
      ((Nat.zero_add _).trans (expect_rcv X b c h).symm)) $$ [HcR HO HaR]
  · isplitr; · iapply (recs_rcv X K b c h); iexact HR
    isplitl [HcR]; · iexact HcR
    isplitl [HO]; · iexact HO
    isplitr; · iapply (mayWait c (.dma (rSem b h)) (h.val + 1) (by rw [lv_rcv]; omega)); iexact HL
    iexact HaR
  iintro ⟨HO, HaR, -, Hp⟩
  ihave Hn := (Entails.of_eq (rest_rcv X b c h)) $$ Hp
  imod (close X (K (sC b c h)) (sC b c h)) $$ [HaS] with HvS
  · isplitr; · iapply (recs_snd X K b c h); iexact HR
    iexact HaS
  imod (close X (K (rC b c h)) (rC b c h)) $$ [HaR] with HvR
  · isplitr; · iapply (recs_rcv X K b c h); iexact HR
    iexact HaR
  iapply Hk
  isplitl [HO]; · iexists _; iexact HO
  isplitl [HvS]; · iexact HvS
  isplitl [HvR]; · iexact HvR
  isplitr [Hn]
  · unfold slotP
    iapply (pointsTo_share (PosShare.mem_left_op_right fullShare)).2
    isplitl [Hl]; · iexact Hl
    iexact Hr
  · iexact Hn

/-! ## The own slot -/

/-- What the first fill writes is the device's own slot of a filled buffer. -/
theorem fill_val (b : Bool) (q : Fin 2 → ℕ) (hq : ∀ a, q a + S256x4096.size a ≤ S512x4096.size a) (eq : q = ![lead b, 0]) :
    k0_pay2 (F := F) ((xM.access (Rect.unit (s := S512x4096) q S256x4096.size hq)).read (Elt F) (X c)) = slotV X b c := by
  subst eq
  funext j
  unfold k0_pay2
  rw [shapeCast_self]
  refine (shapeCast_addUnit_apply ![256, 4096] _ _ j).trans ?_
  have hj : (j 0).val = 0 := by have h := (j 0).isLt; have : (j 0).val < 1 := h; omega
  have hk : ((slotR c).emb j 0 : Dev nD) = c := Fin.ext (by show c.val + 1 * (j 0).val = c.val; omega)
  unfold slotV gath
  rw [hk]
  show X c _ = X c _
  congr 1
  funext (a : Fin 2)
  have ha : a = 0 ∨ a = 1 := by clear hk hj hq; revert a; decide
  rcases ha with rfl | rfl
  · apply Fin.ext; show lead b + 1 * (j 1).val = lead b + (0 + 1 * (j 1).val); omega
  · apply Fin.ext; show 0 + 1 * (j 2).val = 0 + 1 * (j 2).val; rfl

/-- The staged rows. -/
abbrev xPts : sProp 𝕄 := ((c : Thread nD τ).loc cc0_stg0_0) ↦{fullShare} (X c)

/-- The own half block goes into the own slot. -/
theorem fill_wp (b : Bool) (q : Fin 2 → ℕ) (hq) (eq : q = ![lead b, 0]) (rest : TProg F) (Kt : PUnit → sProp 𝕄) :
    iprop(slotA (F := F) b c c ∗ xPts X c)
      ⊢ iprop((iprop(slotP b c c fullShare (full X b) ∗ xPts X c) -∗ WP c rest Kt) -∗ WP c (fill b q hq c rest) Kt) := by
  unfold fill slotA slotP
  have hv := fill_val X c b q hq eq
  have hS : ((gM b).access (Rect.unit (s := S8x256x4096) (k0_off1 c) S1x256x4096.size (k0_off1_inb c))).set = slotS b c :=
    access_set_congr b (off1_eq c) _ _
  iintro ⟨⟨%f, Hs⟩, Hx⟩ Hk
  iapply (wp_load_rect 𝒱₀ (c : Thread nD τ) none Set.univ (m := xM) (r := Rect.unit (s := S512x4096) q S256x4096.size hq)
      (S := Finset.univ) (q := fullShare) (f := X c) (Finset.subset_univ _)) $$ Hx
  iintro Hx
  iapply (wp_load_rect 𝒱₀ (c : Thread nD τ) none Set.univ (m := gM b) (r := Rect.unit (s := S8x256x4096) (k0_off1 c) S1x256x4096.size (k0_off1_inb c))
      (S := slotS b c) (q := fullShare) (f := f) (by rw [hS])) $$ Hs
  iintro Hs
  iapply (wp_store 𝒱₀ (c : Thread nD τ) none Set.univ (m := gM b) (r := Rect.unit (s := S8x256x4096) (k0_off1 c) S1x256x4096.size (k0_off1_inb c))
      (S := slotS b c) (f := f) (by rw [View.setOn_univ, hS])) $$ Hs
  iintro Hs
  iapply Hk
  isplitl [Hs]
  · rw [hv]
    iapply (Entails.of_eq (pointsTo_congr (g := full X b) ?_)) $$ Hs
    intro i hi
    rw [← hS] at hi
    obtain ⟨x, -, rfl⟩ := Finset.mem_map.mp hi
    refine (View.write_emb_of_mem _ _ (Finset.mem_univ x)).trans ?_
    have hx : ((gM b).access (Rect.unit (s := S8x256x4096) (k0_off1 c) S1x256x4096.size (k0_off1_inb c))).emb x = ((gM b).access (slotR c)).emb x :=
      access_emb_congr b (off1_eq c) _ _ x
    rw [hx]
    cases b <;> rfl
  · iexact Hx

end Run

end Cert.KernelIdeal.Own
-- ==== Proof.Body.lean ====
/-
  The run of the whole body on one device: the hops one after the other, what they are entered with, and the barrier before
  them.
-/
module

public import proofs.«01_k».proof.Proof.Hop

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The slots computed with before hop `n`. -/
def got (c : Dev nD) : ℕ → Finset (Bool × Dev nD)
  | 0 => ∅
  | n + 1 => insert (true, org true c n) (insert (false, org false c n) (got c n))
/-- After the last computations every slot of both directions has been computed with. -/
theorem got_all : ∀ (c : Dev nD) (x : Bool × Dev nD), x ∈ got c 8 := by decide +kernel

/-- The next hop's share of what is still to come, and the last hop's of what is past. -/
theorem from_take (h : Fin 7) (Φ : Fin 7 → sProp 𝕄) : bigSep (from' h.val) Φ = iprop(Φ h ∗ bigSep (from' (h.val + 1)) Φ) := by
  rw [(from_step h).1, bigSep_insert (from_step h).2]; rfl
/-- What is kept for the hops up to and with `h` is hop `h`'s share and that of the hops before. -/
theorem upto_put (h : Fin 7) (Φ : Fin 7 → sProp 𝕄) : bigSep (upto (h.val + 1)) Φ = iprop(Φ h ∗ bigSep (upto h.val) Φ) := by
  rw [(upto_step h).1, bigSep_insert (upto_step h).2]; rfl

section Run

variable (X : Dev nD → S512x4096.Idx → Elt F .fp8e5m2) (U : S4096x1024.Idx → Elt F .fp8e5m2) (s : Elt F .f32) (c : Dev nD)

/-- What a hop is entered with, apart from what the barrier brings: its two positions, the tokens it pays with, and the
    credit of the arrival it waits for. -/
def hopOwn (b : Bool) (h : Fin 7) : sProp 𝕄 :=
  iprop(atPos ER (sC b c h) 0 ∅ 0 ∗ atPos ER (rC b c h) 0 ∅ 0 ∗ reached ER (sC b c h) 0 ∗ dutyTok ER (sC b c h) 0 false
    ∗ dutyTok ER (rC b (nx b c) h) 0 false ∗ cred (tallyAt (rC b c h) () (Nc b)))
/-- With the next device's slot that the copy fills. -/
def hopRes (b : Bool) (h : Fin 7) : sProp 𝕄 :=
  iprop(hopOwn (F := F) c b h ∗ slotA (F := F) b (nx b c) (org b c h.val) ∗ reached ER (rC b (nx b c) h) 0)
/-- What a hop leaves: both cells closed, the slot it sent back in hand. -/
def hopDone (b : Bool) (h : Fin 7) : sProp 𝕄 :=
  iprop(semVal (sC b c h) 0 ∗ semVal (rC b c h) 0 ∗ slotP b c (org b c h.val) fullShare (full X b))

/-- Between two hops. -/
def St (n : ℕ) : sProp 𝕄 :=
  iprop((bigSep (from' n) fun h => iprop(hopRes (F := F) c false h ∗ hopRes (F := F) c true h))
    ∗ (bigSep (upto n) fun h => iprop(hopDone X c false h ∗ hopDone X c true h))
    ∗ slotP false c (org false c n) fullShare (full X false) ∗ slotP true c (org true c n) fullShare (full X true)
    ∗ wPts U c ∗ oPts X U s c (got c n) ∗ ∃ W, owes (c : Thread nD τ) (debt c n) W)

/-- One hop. -/
theorem hop_wp (K : GSem nD τ sig → ℕ) (h : Fin 7) (rest : TProg F) (Kt : PUnit → sProp 𝕄) :
    iprop(recs X K ∗ levAts L lv ∗ St X U s c h.val) ⊢ iprop((St X U s c (h.val + 1) -∗ WP c rest Kt) -∗ WP c (hop c s h rest) Kt) := by
  unfold hop
  unfold St
  rw [from_take, upto_put]
  unfold hopRes hopOwn hopDone
  iintro ⟨#HR, #HL, ⟨⟨⟨⟨HaS0, HaR0, #HrS0, HtS0, HtR0, HcR0⟩, Hd0, #HrR0⟩, ⟨HaS1, HaR1, #HrS1, HtS1, HtR1, HcR1⟩, Hd1, #HrR1⟩, Hfrom⟩, Hpast, Hs0, Hs1, Hw, Ho, %W, HO⟩ Hk
  ihave HO := (Entails.of_eq (congrArg (fun O => (owes (c : Thread nD τ) O W : sProp 𝕄)) (debt_step c h))) $$ HO
  iapply (send_wp X c K false h (debt c (h.val + 1) + owe true c h) W) $$ [Hs0 Hd0 HO HtS0 HtR0]
  · isplitr; · iexact HR
    isplitl [Hs0]; · iexact Hs0
    isplitl [Hd0]; · iexact Hd0
    isplitl [HO]; · iexact HO
    isplitl [HtS0]; · iexact HtS0
    isplitr; · iexact HrS0
    isplitl [HtR0]; · iexact HtR0
    iexact HrR0
  iintro ⟨HcS0, HO, Hs0⟩
  iapply (send_wp X c K true h (debt c (h.val + 1)) W) $$ [Hs1 Hd1 HO HtS1 HtR1]
  · isplitr; · iexact HR
    isplitl [Hs1]; · iexact Hs1
    isplitl [Hd1]; · iexact Hd1
    isplitl [HO]; · iexact HO
    isplitl [HtS1]; · iexact HtS1
    isplitr; · iexact HrS1
    isplitl [HtR1]; · iexact HtR1
    iexact HrR1
  iintro ⟨HcS1, HO, Hs1⟩
  iapply (compute_wp X U s c false (org false c h.val) _ _ _ _ (off4_eq c h) (off5_eq c h) fullShare.right (got c h.val)) $$ [Hs0 Hw Ho]
  · isplitl [Hs0]; · iexact Hs0
    isplitl [Hw]; · iexact Hw
    iexact Ho
  iintro ⟨Hs0, Hw, Ho⟩
  iapply (compute_wp X U s c true (org true c h.val) _ _ _ _ (off6_eq c h) (off7_eq c h) fullShare.right) $$ [Hs1 Hw Ho]
  · isplitl [Hs1]; · iexact Hs1
    isplitl [Hw]; · iexact Hw
    iexact Ho
  iintro ⟨Hs1, Hw, Ho⟩
  iapply (waits_wp X c K false h W) $$ [HcS0 HcR0 HO HaS0 HaR0 Hs0]
  · isplitr; · iexact HR
    isplitr; · iexact HL
    isplitl [HcS0]; · iexact HcS0
    isplitl [HcR0]; · iexact HcR0
    isplitl [HO]; · iexact HO
    isplitl [HaS0]; · iexact HaS0
    isplitl [HaR0]; · iexact HaR0
    iexact Hs0
  iintro ⟨⟨%W1, HO⟩, HvS0, HvR0, Hs0, Hn0⟩
  iapply (waits_wp X c K true h W1) $$ [HcS1 HcR1 HO HaS1 HaR1 Hs1]
  · isplitr; · iexact HR
    isplitr; · iexact HL
    isplitl [HcS1]; · iexact HcS1
    isplitl [HcR1]; · iexact HcR1
    isplitl [HO]; · iexact HO
    isplitl [HaS1]; · iexact HaS1
    isplitl [HaR1]; · iexact HaR1
    iexact Hs1
  iintro ⟨⟨%W2, HO⟩, HvS1, HvR1, Hs1, Hn1⟩
  iapply Hk
  isplitl [Hfrom]; · iexact Hfrom
  isplitl [Hpast HvS0 HvR0 Hs0 HvS1 HvR1 Hs1]
  · isplitr [Hpast]
    · isplitl [HvS0 HvR0 Hs0]
      · isplitl [HvS0]; · iexact HvS0
        isplitl [HvR0]; · iexact HvR0
        iexact Hs0
      · isplitl [HvS1]; · iexact HvS1
        isplitl [HvR1]; · iexact HvR1
        iexact Hs1
    · iexact Hpast
  isplitl [Hn0]; · iexact Hn0
  isplitl [Hn1]; · iexact Hn1
  isplitl [Hw]; · iexact Hw
  isplitl [Ho]; · iexact Ho
  iexists W2; iexact HO

/-- Hops in a row. -/
theorem hops_wp (K : GSem nD τ sig → ℕ) (rest : TProg F) (Kt : PUnit → sProp 𝕄) :
    ∀ (l : List (Fin 7)) (n : ℕ), (∀ i (hi : i < l.length), (l[i]).val = n + i) →
      (iprop(recs X K ∗ levAts L lv ∗ St X U s c n) ⊢ iprop((St X U s c (n + l.length) -∗ WP c rest Kt) -∗ WP c (hops c s l rest) Kt))
  | [], n, _ => by
    iintro ⟨-, -, HS⟩ Hk
    iapply Hk; iexact HS
  | h :: l, n, hl => by
    have h0 : h.val = n := hl 0 (Nat.zero_lt_succ _)
    subst h0
    have ih := hops_wp K rest Kt l (h.val + 1) fun i hi => by
      have := hl (i + 1) (Nat.succ_lt_succ hi); rw [List.getElem_cons_succ] at this; omega
    have e : h.val + (h :: l).length = h.val + 1 + l.length := by rw [List.length_cons]; omega
    rw [e]
    iintro ⟨#HR, #HL, HS⟩ Hk
    iapply (hop_wp X U s c K h (hops c s l rest) Kt) $$ [HS]
    · isplitr; · iexact HR
      isplitr; · iexact HL
      iexact HS
    iintro HS
    iapply ih $$ [HS]
    · isplitr; · iexact HR
      isplitr; · iexact HL
      iexact HS
    iexact Hk

/-- After the last hop: the two slots that arrived last. -/
theorem finish_wp (Kt : PUnit → sProp 𝕄) :
    iprop(slotP false c (org false c 7) fullShare (full X false) ∗ slotP true c (org true c 7) fullShare (full X true) ∗ wPts U c ∗ oPts X U s c (got c 7))
      ⊢ iprop((iprop(slotP false c (org false c 7) fullShare (full X false) ∗ slotP true c (org true c 7) fullShare (full X true) ∗ wPts U c
            ∗ oPts X U s c (got c 8)) -∗ |={Set.univ}=> Kt ⟨⟩) -∗ WP c (finish c s) Kt) := by
  unfold finish
  iintro ⟨Hs0, Hs1, Hw, Ho⟩ Hk
  iapply (compute_wp X U s c false (org false c 7) _ _ _ _ (off6_last c) (off7_last c) fullShare (got c 7)) $$ [Hs0 Hw Ho]
  · isplitl [Hs0]; · iexact Hs0
    isplitl [Hw]; · iexact Hw
    iexact Ho
  iintro ⟨Hs0, Hw, Ho⟩
  iapply (compute_wp X U s c true (org true c 7) _ _ _ _ (off4_last c) (off5_last c) fullShare) $$ [Hs1 Hw Ho]
  · isplitl [Hs1]; · iexact Hs1
    isplitl [Hw]; · iexact Hw
    iexact Ho
  iintro ⟨Hs1, Hw, Ho⟩
  unfold WP
  rw [wp_ret]
  iapply Hk
  isplitl [Hs0]; · iexact Hs0
  isplitl [Hs1]; · iexact Hs1
  isplitl [Hw]; · iexact Hw
  iexact Ho

/-- The own arrivals of a direction are open. -/
def arr (b : Bool) : sProp 𝕄 := bigSep Finset.univ fun h : Fin 7 => reached ER (rC b c h) 0
instance arr_persistent (b : Bool) : BI.Persistent (arr (F := F) c b) := by unfold arr; infer_instance
/-- The slots of the own buffer that the copies of the device before fill. -/
def lent (b : Bool) : sProp 𝕄 := bigSep Finset.univ fun h : Fin 7 => slotA (F := F) b c (org b c (h.val + 1))

/-- The barrier unit paid to the device before lends it those slots. -/
theorem barPay_intro (b : Bool) : iprop(lent (F := F) c b ∗ arr (F := F) c b) ⊢ barPay (F := F) (fr b c) b := by
  unfold lent arr barPay
  refine (Entails.of_eq (bigSep_sep' _ _ _).symm).trans (bigSep_mono fun h _ => ?_)
  have e : org b (fr b c) h.val = org b c (h.val + 1) := by have := org_nx b (fr b c) h.val; rw [nx_fr] at this; exact this.symm
  rw [nx_fr, e]
  exact .refl _

/-- A hop's share with what the barrier brought for it. -/
theorem hopRes_intro (h : Fin 7) : iprop((hopOwn (F := F) c false h ∗ hopOwn (F := F) c true h)
      ∗ (slotA (F := F) false (nx false c) (org false c h.val) ∗ reached ER (rC false (nx false c) h) 0)
      ∗ (slotA (F := F) true (nx true c) (org true c h.val) ∗ reached ER (rC true (nx true c) h) 0))
    ⊢ iprop(hopRes (F := F) c false h ∗ hopRes (F := F) c true h) := by
  unfold hopRes
  iintro ⟨⟨H0, H1⟩, H2, H3⟩
  isplitl [H0 H2]
  · isplitl [H0]; · iexact H0
    iexact H2
  · isplitl [H1]; · iexact H1
    iexact H3

/-- What the barrier brought, dealt to the hops. -/
theorem hopRes_join : iprop((bigSep Finset.univ fun h => iprop(hopOwn (F := F) c false h ∗ hopOwn (F := F) c true h)) ∗ barPay (F := F) c false ∗ barPay (F := F) c true)
    ⊢ bigSep Finset.univ fun h => iprop(hopRes (F := F) c false h ∗ hopRes (F := F) c true h) := by
  unfold barPay
  exact (sep_mono_right (Entails.of_eq (bigSep_sep' _ _ _).symm)).trans ((Entails.of_eq (bigSep_sep' _ _ _).symm).trans (bigSep_mono fun h _ => hopRes_intro c h))

/-- What the device starts with, of the protocol: its names, its barrier cell's position, the two barrier duties it pays, the
    credit for the two barrier units it waits for, and each hop's share. -/
def ghost (K : GSem nD τ sig → ℕ) : sProp 𝕄 :=
  iprop(recs X K ∗ atPos ER (barC c) 0 ∅ 0 ∗ (dutyTok ER (barC (fr false c)) 0 false ∗ reached ER (barC (fr false c)) 0)
    ∗ (dutyTok ER (barC (fr true c)) 0 true ∗ reached ER (barC (fr true c)) 0) ∗ cred (tallyAt (barC c) () 2)
    ∗ (bigSep Finset.univ fun h => iprop(hopOwn (F := F) c false h ∗ hopOwn (F := F) c true h)) ∗ arr (F := F) c false ∗ arr (F := F) c true)

/-- The scale as the body reads it. -/
def sAt (sc : S1x1.Idx → Elt F .f32) : Elt F .f32 :=
  (sM.access (Rect.unit (s := S1x1) ![0, 0] S1x1.size inb_S1x1_S1x1_0_0)).read (Elt F) sc (Shape.Idx.first (numel1_S1x1.symm ▸ Nat.one_pos))
abbrev sPts (sc : S1x1.Idx → Elt F .f32) : sProp 𝕄 := ((c : Thread nD τ).loc cc0_stg2_0) ↦{fullShare} sc
/-- The staged result, at contents not chosen. -/
abbrev oAny : sProp 𝕄 := iprop(∃ g : S4096x1024.Idx → Elt F .f32, ((c : Thread nD τ).loc cc0_stg3_0) ↦{fullShare} g)

/-- Before any computation the staged result may hold anything. -/
theorem oPts_intro : oAny c ⊢ oPts X U s c (got c 0) := by
  unfold oPts
  iintro ⟨%g, H⟩
  iexists g
  isplitr; · ipureintro; exact done_empty X U s g
  iexact H
/-- When all slots are computed with, the result is whole. -/
theorem oPts_elim : oPts X U s c (got c 8) ⊢ (((c : Thread nD τ).loc cc0_stg3_0) ↦{fullShare} (outV X U s) : sProp 𝕄) := by
  unfold oPts
  iintro ⟨%g, %hg, H⟩
  have e : g = outV X U s := funext fun i => hg i (got_all c _)
  subst e
  iexact H

/-- Before the body: the protocol's share, both gathering buffers slot by slot, the staged operands, the debts of launch. -/
def bodyPre (K : GSem nD τ sig → ℕ) (sc : S1x1.Idx → Elt F .f32) : sProp 𝕄 :=
  iprop(ghost X c K ∗ levAts L lv ∗ (slotA (F := F) false c c ∗ lent (F := F) c false) ∗ (slotA (F := F) true c c ∗ lent (F := F) c true)
    ∗ xPts X c ∗ wPts U c ∗ sPts c sc ∗ oAny (F := F) c ∗ ∃ W, owes (c : Thread nD τ) (O₀ c) W)
/-- After it: every cell closed, both gathering buffers in hand, the operands as they were, the result whole, nothing owed. -/
def bodyPost (sc : S1x1.Idx → Elt F .f32) : sProp 𝕄 :=
  iprop(semVal (barC c) 0 ∗ (bigSep Finset.univ fun h => iprop(hopDone X c false h ∗ hopDone X c true h))
    ∗ slotP false c (org false c 7) fullShare (full X false) ∗ slotP true c (org true c 7) fullShare (full X true)
    ∗ xPts X c ∗ wPts U c ∗ sPts c sc ∗ (((c : Thread nD τ).loc cc0_stg3_0) ↦{fullShare} (outV X U (sAt sc))) ∗ ∃ W, owes (c : Thread nD τ) 0 W)

/-- After the seven hops. -/
theorem St_seven : St X U s c (0 + [0, 1, 2, 3, 4, 5, 6].length) ⊢ iprop((bigSep Finset.univ fun h => iprop(hopDone X c false h ∗ hopDone X c true h))
    ∗ slotP false c (org false c 7) fullShare (full X false) ∗ slotP true c (org true c 7) fullShare (full X true)
    ∗ wPts U c ∗ oPts X U s c (got c 7) ∗ ∃ W, owes (c : Thread nD τ) 0 W) := by
  rw [show 0 + [0, 1, 2, 3, 4, 5, 6].length = 7 from rfl]
  unfold St
  rw [upto_seven, debt_seven]
  iintro ⟨-, H⟩
  iexact H

/-- From the filled own slots to the end. -/
theorem gather_wp (K : GSem nD τ sig → ℕ) (Kt : PUnit → sProp 𝕄) :
    iprop(recs X K ∗ levAts L lv ∗ (bigSep Finset.univ fun h => iprop(hopRes (F := F) c false h ∗ hopRes (F := F) c true h))
        ∗ slotA (F := F) false c c ∗ slotA (F := F) true c c ∗ xPts X c ∗ wPts U c ∗ oAny (F := F) c ∗ ∃ W, owes (c : Thread nD τ) (debt c 0) W)
      ⊢ iprop((iprop((bigSep Finset.univ fun h => iprop(hopDone X c false h ∗ hopDone X c true h))
            ∗ slotP false c (org false c 7) fullShare (full X false) ∗ slotP true c (org true c 7) fullShare (full X true)
            ∗ xPts X c ∗ wPts U c ∗ oPts X U s c (got c 8) ∗ ∃ W, owes (c : Thread nD τ) 0 W) -∗ |={Set.univ}=> Kt ⟨⟩)
          -∗ WP c (gather c s) Kt) := by
  unfold gather
  iintro ⟨#HR, #HL, Hh, Hs0, Hs1, Hx, Hw, Ho, HO⟩ Hk
  iapply (fill_wp X c false ![0, 0] _ rfl) $$ [Hs0 Hx]
  · isplitl [Hs0]; · iexact Hs0
    iexact Hx
  iintro ⟨Hs0, Hx⟩
  iapply (fill_wp X c true ![256, 0] _ rfl) $$ [Hs1 Hx]
  · isplitl [Hs1]; · iexact Hs1
    iexact Hx
  iintro ⟨Hs1, Hx⟩
  iapply (hops_wp X U s c K (finish c s) Kt [0, 1, 2, 3, 4, 5, 6] 0 (by decide)) $$ [Hh Hs0 Hs1 Hw Ho HO]
  · isplitr; · iexact HR
    isplitr; · iexact HL
    unfold St
    rw [from_zero, upto_zero, org_zero, org_zero]
    isplitl [Hh]; · iexact Hh
    isplitr; · rw [bigSep_empty]; iempintro
    isplitl [Hs0]; · iexact Hs0
    isplitl [Hs1]; · iexact Hs1
    isplitl [Hw]; · iexact Hw
    isplitl [Ho]; · iapply (oPts_intro X U s c); iexact Ho
    iexact HO
  iintro HS
  ihave HS := (St_seven X U s c) $$ HS
  icases HS with ⟨Hp, Hs0, Hs1, Hw, Ho, HO⟩
  iapply (finish_wp X U s c Kt) $$ [Hs0 Hs1 Hw Ho]
  · isplitl [Hs0]; · iexact Hs0
    isplitl [Hs1]; · iexact Hs1
    isplitl [Hw]; · iexact Hw
    iexact Ho
  iintro ⟨Hs0, Hs1, Hw, Ho⟩
  iapply Hk
  isplitl [Hp]; · iexact Hp
  isplitl [Hs0]; · iexact Hs0
  isplitl [Hs1]; · iexact Hs1
  isplitl [Hx]; · iexact Hx
  isplitl [Hw]; · iexact Hw
  isplitl [Ho]; · iexact Ho
  iexact HO

/-- The body's run. -/
theorem body_wp (K : GSem nD τ sig → ℕ) (sc : S1x1.Idx → Elt F .f32) (Kt : PUnit → sProp 𝕄) :
    iprop(bodyPre X U c K sc ∗ (bodyPost X U c sc -∗ |={Set.univ}=> Kt ⟨⟩)) ⊢ WP c body Kt := by
  unfold body bodyPre bodyPost ghost WP
  rw [wp_deviceId]
  dsimp only
  rw [dev1_eq, dev2_eq]
  iintro ⟨⟨⟨#HR, HaB, ⟨Ht0, #Hr0⟩, ⟨Ht1, #Hr1⟩, HcB, Hh, #Ha0, #Ha1⟩, #HL, ⟨Hs0, Hl0⟩, ⟨Hs1, Hl1⟩, Hx, Hw, Hsc, Ho, %W, HO⟩, Hk⟩
  iapply (Rounds.wp_signal 𝒱₀ ER (Rd X) (c : Thread nD τ) none (dst := (fr false c : Thread nD τ)) (sem := barS) (r := 0) (d := false) (κ := K (barC (fr false c)))
      (by rw [duties_bar]; exact Finset.mem_univ _) (amount_bar X (fr false c) false) () (debt c 0 + tallyAt (barC (fr true c)) () 1) rfl) $$ [HO Ht0 Hl0]
  · isplitr; · iapply (recs_bar X K (fr false c)); iexact HR
    isplitl [HO]; · iexact HO
    isplitl [Ht0]; · iexact Ht0
    isplitl [Hl0]
    · rw [payload_bar]
      iapply (barPay_intro c false)
      isplitl [Hl0]; · iexact Hl0
      iexact Ha0
    iexact Hr0
  iintro HO
  iapply (Rounds.wp_signal 𝒱₀ ER (Rd X) (c : Thread nD τ) none (dst := (fr true c : Thread nD τ)) (sem := barS) (r := 0) (d := true) (κ := K (barC (fr true c)))
      (by rw [duties_bar]; exact Finset.mem_univ _) (amount_bar X (fr true c) true) () (debt c 0) rfl) $$ [HO Ht1 Hl1]
  · isplitr; · iapply (recs_bar X K (fr true c)); iexact HR
    isplitl [HO]; · iexact HO
    isplitl [Ht1]; · iexact Ht1
    isplitl [Hl1]
    · rw [payload_bar]
      iapply (barPay_intro c true)
      isplitl [Hl1]; · iexact Hl1
      iexact Ha1
    iexact Hr1
  iintro HO
  iapply (Rounds.wp_wait_rest_token 𝒱₀ ER (Rd X) (c : Thread nD τ) none (κ := K (barC c))
      (wpE_semWait_eq 𝒱₀ (c : Thread nD τ) none Set.univ) (Set.mem_univ _) () (O := debt c 0) (W := W) (R := 0) (m := 0) (T := ∅)
      ((Nat.zero_add 2).trans (expect_bar X c).symm)) $$ [HcB HO HaB]
  · isplitr; · iapply (recs_bar X K c); iexact HR
    isplitl [HcB]; · iexact HcB
    isplitl [HO]; · iexact HO
    isplitr; · iapply (mayWait c (.reg barS) 0 (by rw [lv_bar]; decide)); iexact HL
    iexact HaB
  iintro ⟨HO, HaB, -, Hp⟩
  ihave Hp := (Entails.of_eq (rest_bar X c)) $$ Hp
  icases Hp with ⟨Hp0, Hp1⟩
  imod (close X (K (barC c)) (barC c)) $$ [HaB] with HvB
  · isplitr; · iapply (recs_bar X K c); iexact HR
    iexact HaB
  iapply (wp_smemLoadElt 𝒱₀ (c : Thread nD τ) none Set.univ (m := sM) (r := Rect.unit (s := S1x1) ![0, 0] S1x1.size inb_S1x1_S1x1_0_0)
      (S := Finset.univ) (q := fullShare) (f := sc) (Finset.subset_univ _)) $$ Hsc
  iintro Hsc
  iapply (gather_wp X U (sAt sc) c K Kt) $$ [Hh Hp0 Hp1 Hs0 Hs1 Hx Hw Ho HO]
  · isplitr; · iexact HR
    isplitr; · iexact HL
    isplitl [Hh Hp0 Hp1]
    · iapply (hopRes_join c)
      isplitl [Hh]; · iexact Hh
      isplitl [Hp0]; · iexact Hp0
      iexact Hp1
    isplitl [Hs0]; · iexact Hs0
    isplitl [Hs1]; · iexact Hs1
    isplitl [Hx]; · iexact Hx
    isplitl [Hw]; · iexact Hw
    isplitl [Ho]; · iexact Ho
    iexists _; iexact HO
  iintro ⟨Hp, Hs0, Hs1, Hx, Hw, Ho, HO⟩
  iapply Hk
  isplitl [HvB]; · iexact HvB
  isplitl [Hp]; · iexact Hp
  isplitl [Hs0]; · iexact Hs0
  isplitl [Hs1]; · iexact Hs1
  isplitl [Hx]; · iexact Hx
  isplitl [Hw]; · iexact Hw
  isplitl [Hsc]; · iexact Hsc
  isplitl [Ho]; · iapply (oPts_elim X U (sAt sc) c); iexact Ho
  iexact HO

end Run

end Cert.KernelIdeal.Own
-- ==== Proof.Slots.lean ====
/-
  A gathering buffer taken whole from the launch and cut into its eight slots, in the order in which the hops of a
  direction meet their origins; and the slots joined to the whole buffer when the body has ended.
-/
module

public import proofs.«01_k».proof.Proof.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The slots' rectangles do not meet. -/
theorem slotR_disjoint (o o' : Fin 8) (h : o ≠ o') : Disjoint (slotR o).set (slotR o').set :=
  Ring.lead_disjoint (s := S8x256x4096) (NB := 8) 0 1 (fun o => ![o.val, 0, 0]) S1x256x4096.size slot_inb
    (fun o => (Nat.one_mul o.val).symm) rfl o o' h
/-- Together they are the buffer. -/
theorem slotR_cover : Finset.univ.biUnion (fun o : Fin 8 => (slotR o).set) = Finset.univ :=
  Ring.lead_cover (s := S8x256x4096) (NB := 8) 0 1 (fun o => ![o.val, 0, 0]) S1x256x4096.size slot_inb
    (fun o => (Nat.one_mul o.val).symm) (by decide) rfl (by decide) rfl

/-- Different slots share no element. -/
theorem slotS_disjoint : ∀ (b : Bool) (o o' : Dev nD), o ≠ o' → Disjoint (slotS b o) (slotS b o')
  | false, o, o', h => by
    unfold slotS; rw [show ((gM false).access (slotR o)).set = (slotR o).set from View.set_slice_whole _ _,
      show ((gM false).access (slotR o')).set = (slotR o').set from View.set_slice_whole _ _]; exact slotR_disjoint o o' h
  | true, o, o', h => by
    unfold slotS; rw [show ((gM true).access (slotR o)).set = (slotR o).set from View.set_slice_whole _ _,
      show ((gM true).access (slotR o')).set = (slotR o').set from View.set_slice_whole _ _]; exact slotR_disjoint o o' h

/-- The slots make up the buffer. -/
theorem slotS_cover : ∀ b : Bool, Finset.univ.biUnion (slotS b) = Finset.univ
  | false => by
    rw [show slotS false = fun o : Fin 8 => (slotR o).set from funext fun o => View.set_slice_whole _ _]; exact slotR_cover
  | true => by
    rw [show slotS true = fun o : Fin 8 => (slotR o).set from funext fun o => View.set_slice_whole _ _]; exact slotR_cover

/-- The origins met in eight steps are the devices. -/
def orgE (b : Bool) (c : Dev nD) : Fin 8 ≃ Dev nD := Equiv.ofBijective (fun n => org b c n.val) ⟨org_inj b c, org_surj b c⟩

/-- A family of eight, its first apart. -/
theorem eight_first (Φ : Fin 8 → sProp 𝕄) : bigSep Finset.univ Φ = iprop(Φ 0 ∗ bigSep Finset.univ fun h : Fin 7 => Φ h.succ) := by
  rw [Fin.univ_succ, Finset.cons_eq_insert, bigSep_insert (by simp [Fin.succ_ne_zero]), bigSep_map]
  rfl
/-- A family of eight, its last apart. -/
theorem eight_last (Φ : Fin 8 → sProp 𝕄) : bigSep Finset.univ Φ = iprop(Φ (Fin.last 7) ∗ bigSep Finset.univ fun h : Fin 7 => Φ h.castSucc) := by
  rw [Fin.univ_castSuccEmb, Finset.cons_eq_insert,
    bigSep_insert (fun h => by obtain ⟨x, -, e⟩ := Finset.mem_map.mp h; exact absurd e (Fin.castSucc_lt_last x).ne), bigSep_map]
  rfl

variable (X : Dev nD → S512x4096.Idx → Elt F .fp8e5m2) (c : Dev nD)

/-- A gathering buffer whole, at contents not chosen. -/
def scrAny (b : Bool) : sProp 𝕄 := iprop(∃ f, (gM b).view.loc (c : Thread nD τ) ↦{fullShare} f)

/-- A slot at some contents is a slot at contents not chosen. -/
theorem slotA_intro (b : Bool) (o : Dev nD) (f : Buf (Elt F) ((gM b).view.loc (c : Thread nD τ))) :
    ((gM b).view.loc (c : Thread nD τ) ↦[slotS b o]{fullShare} f) ⊢ (slotA (F := F) b c o : sProp 𝕄) := by
  unfold slotA slotP; iintro H; iexists f; iexact H

/-- A buffer whole is its slots. -/
theorem slots_split (b : Bool) : scrAny (F := F) c b ⊢ bigSep Finset.univ fun o : Dev nD => slotA (F := F) b c o := by
  unfold scrAny
  iintro ⟨%f, H⟩
  ihave H := (Entails.of_eq (Ring.pointsTo_blocks (slotS b) (slotS_disjoint b) (slotS_cover b) f)) $$ H
  iapply (show (bigSep Finset.univ fun o => ((gM b).view.loc (c : Thread nD τ) ↦[slotS b o]{fullShare} f : sProp 𝕄)) ⊢ bigSep Finset.univ fun o : Dev nD => slotA (F := F) b c o from
    bigSep_mono fun o _ => slotA_intro c b o f)
  iexact H

/-- The own slot, and those that the copies fill. -/
theorem slots_take (b : Bool) : scrAny (F := F) c b ⊢ iprop(slotA (F := F) b c c ∗ lent (F := F) c b) := by
  refine (slots_split c b).trans (Entails.of_eq ?_)
  rw [bigSep_univ_equiv (orgE b c), eight_first]
  unfold lent
  rw [show orgE b c 0 = c from org_zero b c]
  rfl

/-- The slots at the end make the buffer again. -/
theorem slots_give (b : Bool) : iprop((bigSep Finset.univ fun h : Fin 7 => slotP b c (org b c h.val) fullShare (full X b))
    ∗ slotP b c (org b c 7) fullShare (full X b)) ⊢ scrAny (F := F) c b := by
  refine BIBase.Entails.trans ?_ (Ring.pointsTo_blocks_join_exists (slotS b) (slotS_disjoint b) (slotS_cover b) (full X b))
  rw [bigSep_univ_equiv (orgE b c), eight_last]
  have one (o : Dev nD) : slotP b c o fullShare (full X b) ⊢ (iprop(∃ f, (gM b).view.loc (c : Thread nD τ) ↦[slotS b o]{fullShare} f) : sProp 𝕄) := by
    unfold slotP; iintro H; iexists _; iexact H
  iintro ⟨Hs, Hl⟩
  isplitl [Hl]; · iapply (one (org b c 7)); iexact Hl
  iapply (show (bigSep Finset.univ fun h : Fin 7 => slotP b c (org b c h.val) fullShare (full X b)) ⊢ _ from bigSep_mono fun h _ => one (org b c h.val))
  iexact Hs

end Cert.KernelIdeal.Own
-- ==== Proof.Ghost.lean ====
/-
  What the launch deals to each device of the protocol: the tokens of the duties that it pays, the right to open each of
  its copies' cells, the credit for what its neighbours owe it; and the cells opened when the kernel is entered.
-/
module

public import proofs.«01_k».proof.Proof.Slots
public import Idealize.ShloMosaic.Harness.Basic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over the copies' cells -/

/-- Something held for each direction, as a pair. -/
theorem two_dirs (Φ : Bool → sProp 𝕄) : bigSep Finset.univ Φ = iprop(Φ false ∗ Φ true) := by
  rw [show (Finset.univ : Finset Bool) = {false, true} from by decide, bigSep_insert (by decide), bigSep_singleton]; rfl

/-- Departure or arrival, direction, hop: the hop outermost. -/
def hopE : Fin 7 × (Bool × Bool) ≃ Bool × Bool × Fin 7 where
  toFun p := (p.2.2, p.2.1, p.1)
  invFun x := (x.2.2, (x.2.1, x.1))
  left_inv _ := rfl
  right_inv _ := rfl

/-- A family over the copies' cells, hop by hop. -/
theorem by_hops (Φ : Bool × Bool × Fin 7 → sProp 𝕄) : bigSep Finset.univ Φ
    = bigSep Finset.univ fun h : Fin 7 => iprop((Φ (false, false, h) ∗ Φ (true, false, h)) ∗ (Φ (false, true, h) ∗ Φ (true, true, h))) := by
  rw [bigSep_univ_equiv hopE, bigSep_univ_prod]
  refine bigSep_congr fun h _ => ?_
  rw [bigSep_univ_prod, two_dirs, two_dirs, two_dirs]
  rfl

/-! ## The duties' tokens -/

/-- A barrier duty is a device and a direction; a copy's duty is a device and a copy's cell. -/
def tokOf : (Dev nD × Bool) ⊕ (Dev nD × (Bool × Bool × Fin 7)) → GSem nD τ sig × ℕ × Bool
  | .inl p => (barC p.1, 0, p.2)
  | .inr p => (cellAt p.1 p.2, 0, false)
/-- A regular semaphore is no semaphore of copies. -/
theorem reg_ne_dma (a : _) (b : _) : (SemLoc.reg a : SemLoc sig) ≠ SemLoc.dma b := nofun
/-- A barrier's cell is no copy's cell. -/
theorem bar_ne_cell (c d : Dev nD) (x : Bool × Bool × Fin 7) : barC c ≠ cellAt d x := fun h => reg_ne_dma _ _ (congrArg Prod.snd h)
/-- Different duties have different tokens. -/
theorem tokOf_inj : Function.Injective tokOf
  | .inl p, .inl q, h => congrArg _ (Prod.ext (congrArg (fun t : GSem nD τ sig × ℕ × Bool => t.1.1.1) h) (congrArg (fun t : GSem nD τ sig × ℕ × Bool => t.2.2) h))
  | .inl p, .inr q, h => absurd (congrArg Prod.fst h) (bar_ne_cell _ _ _)
  | .inr p, .inl q, h => absurd (congrArg Prod.fst h).symm (bar_ne_cell _ _ _)
  | .inr p, .inr q, h => congrArg _ (scEmb.injective (congrArg (fun t : GSem nD τ sig × ℕ × Bool => t.1) h))
def toks : Finset (GSem nD τ sig × ℕ × Bool) := Finset.univ.map ⟨tokOf, tokOf_inj⟩

/-- The tokens of the cells that a device owns. -/
def ownToks (c : Dev nD) : sProp 𝕄 := iprop((dutyTok ER (barC c) 0 false ∗ dutyTok ER (barC c) 0 true)
    ∗ (bigSep Finset.univ fun h : Fin 7 => dutyTok ER (sC false c h) 0 false) ∗ (bigSep Finset.univ fun h : Fin 7 => dutyTok ER (rC false c h) 0 false)
    ∗ (bigSep Finset.univ fun h : Fin 7 => dutyTok ER (sC true c h) 0 false) ∗ (bigSep Finset.univ fun h : Fin 7 => dutyTok ER (rC true c h) 0 false))

/-- A device's tokens, from those of its barrier and those of its copies in each direction. -/
theorem ownToks_intro (c : Dev nD) :
    iprop((dutyTok ER (barC c) 0 false ∗ dutyTok ER (barC c) 0 true)
      ∗ ((bigSep Finset.univ fun h : Fin 7 => dutyTok ER (sC false c h) 0 false) ∗ (bigSep Finset.univ fun h : Fin 7 => dutyTok ER (rC false c h) 0 false))
      ∗ (bigSep Finset.univ fun h : Fin 7 => dutyTok ER (sC true c h) 0 false) ∗ (bigSep Finset.univ fun h : Fin 7 => dutyTok ER (rC true c h) 0 false))
      ⊢ ownToks (F := F) c := by
  unfold ownToks
  iintro ⟨H0, ⟨H1, H2⟩, H3, H4⟩
  isplitl [H0]; · iexact H0
  isplitl [H1]; · iexact H1
  isplitl [H2]; · iexact H2
  isplitl [H3]; · iexact H3
  iexact H4

/-- All tokens, dealt out by the device whose cell they are for. -/
theorem toks_own : bigSep toks (fun x => (dutyTok ER x.1 x.2.1 x.2.2 : sProp 𝕄)) ⊢ bigSep Finset.univ fun c : Dev nD => ownToks (F := F) c := by
  unfold toks
  rw [bigSep_map, bigSep_univ_sum, bigSep_univ_prod, bigSep_univ_prod, ← bigSep_sep]
  refine bigSep_mono fun c _ => ?_
  rw [two_dirs, by_hops, bigSep_sep', bigSep_sep', bigSep_sep']
  exact ownToks_intro c

/-- The tokens of the duties that a device pays. -/
def payToks (c : Dev nD) : sProp 𝕄 := iprop((dutyTok ER (barC (fr false c)) 0 false ∗ dutyTok ER (barC (fr true c)) 0 true)
    ∗ (bigSep Finset.univ fun h : Fin 7 => dutyTok ER (sC false c h) 0 false) ∗ (bigSep Finset.univ fun h : Fin 7 => dutyTok ER (rC false (nx false c) h) 0 false)
    ∗ (bigSep Finset.univ fun h : Fin 7 => dutyTok ER (sC true c h) 0 false) ∗ (bigSep Finset.univ fun h : Fin 7 => dutyTok ER (rC true (nx true c) h) 0 false))

/-- Each token is handed to the neighbour that pays the duty. -/
theorem toks_around : (bigSep Finset.univ fun c : Dev nD => ownToks (F := F) c) ⊢ bigSep Finset.univ fun c : Dev nD => payToks (F := F) c := by
  unfold ownToks payToks
  rw [bigSep_sep', bigSep_sep', bigSep_sep', bigSep_sep', bigSep_sep', bigSep_sep', bigSep_sep', bigSep_sep', bigSep_sep', bigSep_sep',
    bigSep_univ_equiv (ring true) (fun c : Dev nD => (dutyTok ER (barC c) 0 false : sProp 𝕄)),
    bigSep_univ_equiv (ring false) (fun c : Dev nD => (dutyTok ER (barC c) 0 true : sProp 𝕄)),
    bigSep_univ_equiv (ring false) (fun c : Dev nD => (bigSep Finset.univ fun h : Fin 7 => dutyTok ER (rC false c h) 0 false : sProp 𝕄)),
    bigSep_univ_equiv (ring true) (fun c : Dev nD => (bigSep Finset.univ fun h : Fin 7 => dutyTok ER (rC true c h) 0 false : sProp 𝕄))]
  exact BIBase.Entails.refl

/-! ## The launch's credit -/

/-- A barrier's cell is not that of an arriving copy. -/
theorem bar_ne_rcv (c d : Dev nD) (b : Bool) (h : Fin 7) : barC c ≠ rC b d h := fun e => reg_ne_dma _ _ (congrArg Prod.snd e)

/-- Cells of arriving copies are told apart by direction, device and hop. -/
theorem rcv_iff (b b' : Bool) (c d : Dev nD) (h h' : Fin 7) : rC b c h = rC b' d h' ↔ b = b' ∧ c = d ∧ h = h' := by
  refine ⟨fun e => ?_, fun ⟨e1, e2, e3⟩ => by rw [e1, e2, e3]⟩
  have e1 : c = d := congrArg (fun g : GSem nD τ sig => g.1.1) e
  have e2 : Use.rcv b h = Use.rcv b' h' := by
    have := congrArg (fun g : GSem nD τ sig => useOf g.2) e
    simpa only [use_rcv] using this
  injection e2 with e3 e4
  exact ⟨e3, e1, e4⟩

/-- Barrier cells are told apart by the device. -/
theorem bar_iff (c d : Dev nD) : barC c = barC d ↔ c = d := ⟨fun e => congrArg (fun g : GSem nD τ sig => g.1.1) e, fun e => by rw [e]⟩

/-- A device is the next after `d` when `d` is the one before it. -/
theorem nx_iff (b : Bool) (c d : Dev nD) : c = nx b d ↔ d = fr b c :=
  ⟨fun e => by rw [e, fr_nx], fun e => by rw [e, nx_fr]⟩

/-- What a device owes a cell of an arriving copy, for one hop and direction: the amount, if that cell is its copy's target. -/
theorem owe_at (b b' : Bool) (c d : Dev nD) (h h' : Fin 7) : owe b' d h' (rC b c h) () = if b = b' ∧ h' = h ∧ d = fr b c then Nc b else 0 := by
  unfold owe
  rw [tallyAt_apply]
  by_cases hh : b = b' ∧ h' = h ∧ d = fr b c
  · obtain ⟨rfl, rfl, rfl⟩ := hh
    rw [if_pos ⟨by rw [nx_fr], rfl⟩, if_pos ⟨rfl, rfl, rfl⟩]
  · rw [if_neg hh, if_neg]
    rintro ⟨e, -⟩
    obtain ⟨rfl, e2, rfl⟩ := (rcv_iff _ _ _ _ _ _).mp e
    exact hh ⟨rfl, rfl, (nx_iff _ _ _).mp e2⟩

/-- What device `d` owes on an arrival cell. -/
theorem debt_rcv (b : Bool) (c d : Dev nD) (h : Fin 7) : debt d 0 (rC b c h) () = if d = fr b c then Nc b else 0 := by
  unfold debt
  rw [from_zero, Finset.sum_apply, Finset.sum_apply']
  rw [Finset.sum_congr rfl fun h' _ => show (owe true d h' + owe false d h') (rC b c h) () = if h' = h then (if d = fr b c then Nc b else 0) else 0 from by
    rw [Pi.add_apply, Finsupp.add_apply, owe_at, owe_at]
    by_cases e1 : h' = h
    · by_cases e2 : d = fr b c
      · cases b <;> simp [e1, e2]
      · simp [e2]
    · simp [e1]]
  rw [Finset.sum_ite_eq' Finset.univ h fun _ => if d = fr b c then Nc b else 0, if_pos (Finset.mem_univ _)]

/-- The copies owe a barrier nothing. -/
theorem debt_bar (c d : Dev nD) : debt d 0 (barC c) () = 0 := by
  refine Nat.eq_zero_of_not_pos fun hp => ?_
  obtain ⟨b, h, -, e⟩ := debt_pos d 0 _ _ hp
  exact bar_ne_rcv _ _ _ _ e

/-- At the launch the device before owes the cell of an arriving copy that copy's amount, and no other device does. -/
theorem O₀_rcv (b : Bool) (c d : Dev nD) (h : Fin 7) : O₀ d (rC b c h) () = if d = fr b c then Nc b else 0 := by
  unfold O₀
  rw [Pi.add_apply, Pi.add_apply, Finsupp.add_apply, Finsupp.add_apply, tallyAt_ne_cell (bar_ne_rcv _ _ _ _).symm,
    tallyAt_ne_cell (bar_ne_rcv _ _ _ _).symm, Finsupp.zero_apply, debt_rcv]; rfl

/-- At the launch each neighbour owes a barrier one unit. -/
theorem O₀_bar (c d : Dev nD) : O₀ d (barC c) () = (if d = nx true c then 1 else 0) + if d = nx false c then 1 else 0 := by
  unfold O₀
  have e (b : Bool) : tallyAt (barC (fr b d)) () 1 (barC c) () = if d = nx b c then 1 else 0 := by
    rw [tallyAt_apply]
    refine if_congr ⟨fun h => ?_, fun h => ⟨(bar_iff _ _).mpr ?_, rfl⟩⟩ rfl rfl
    · rw [(bar_iff _ _).mp h.1, nx_fr]
    · rw [h, fr_nx]
  rw [Pi.add_apply, Pi.add_apply, Finsupp.add_apply, Finsupp.add_apply, debt_bar, e, e, Nat.zero_add]

/-- The credit of the launch for an arriving copy is the copy's amount. -/
theorem launch_rcv (b : Bool) (c : Dev nD) (h : Fin 7) :
    tallyOn (rC b c h) (launchCredit (Pipeline.owing O₀) 0 (rC b c h)) = (tallyAt (rC b c h) () (Nc b) : CellTallies nD τ sig Unit) := by
  unfold tallyAt; refine congrArg _ (Finsupp.ext fun u => ?_); cases u
  rw [Pipeline.launchCredit_owing, Finsupp.single_eq_same, Finset.sum_congr rfl fun d _ => O₀_rcv b c d h,
    Finset.sum_ite_eq' Finset.univ (fr b c) fun _ => Nc b, if_pos (Finset.mem_univ _)]

/-- The credit of the launch for a barrier is two units. -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => O₀_bar c d, Finset.sum_add_distrib,
    Finset.sum_ite_eq' Finset.univ (nx true c) fun _ => 1, Finset.sum_ite_eq' Finset.univ (nx false c) fun _ => 1,
    if_pos (Finset.mem_univ _), if_pos (Finset.mem_univ _)]

/-- The arrival semaphores. -/
def rcvEmb : Bool × Fin 7 ↪ SemLoc sig :=
  ⟨fun p => .dma (rSem p.1 p.2), fun p q h => by
    have e : Use.rcv p.1 p.2 = Use.rcv q.1 q.2 := by
      have := congrArg useOf h
      simpa only [use_rcv] using this
    injection e with e1 e2
    exact Prod.ext e1 e2⟩

/-- The credit that a device waits with. -/
def creds (c : Dev nD) : sProp 𝕄 := iprop(cred (tallyAt (barC c) () 2)
    ∗ (bigSep Finset.univ fun h : Fin 7 => cred (tallyAt (rC false c h) () (Nc false))) ∗ (bigSep Finset.univ fun h : Fin 7 => cred (tallyAt (rC true c h) () (Nc true))))

/-- The credits of the launch for a device's cells are those that its waits spend. -/
theorem creds_intro (c : Dev nD) : (Pipeline.launchCred O₀ c : sProp 𝕄) ⊢ creds (F := F) c := by
  unfold Pipeline.launchCred creds
  rw [bigSep_univ_at _ (SemLoc.reg barS), launch_bar]
  refine sep_mono_right ((bigSep_subset (t := Finset.univ.map rcvEmb) fun s hs => ?_).trans ?_)
  · obtain ⟨p, -, rfl⟩ := Finset.mem_map.mp hs
    exact Finset.mem_erase.mpr ⟨fun e => reg_ne_dma _ _ e.symm, Finset.mem_univ _⟩
  · rw [bigSep_map, bigSep_univ_prod, two_dirs]
    exact sep_mono (bigSep_mono fun h _ => Entails.of_eq (congrArg cred (launch_rcv false c h)))
      (bigSep_mono fun h _ => Entails.of_eq (congrArg cred (launch_rcv true c h)))

/-! ## Opening the copies' cells -/

variable (X : Dev nD → S512x4096.Idx → Elt F .fp8e5m2)

/-- A copy's cell is one of the protocol's cells. -/
theorem cell_mem (c : Dev nD) (x : Bool × Bool × Fin 7) : cellAt c x ∈ (barCells ∪ scCells : Finset (GSem nD τ sig)) :=
  Finset.mem_union_right _ (Finset.mem_map_of_mem scEmb (Finset.mem_univ (c, x)))

/-- A copy's cell opened: its counter at zero goes under the protocol, and the device gets its place at the first round. -/
theorem open_one (K : GSem nD τ sig → ℕ) (c : Dev nD) (x : Bool × Bool × Fin 7) :
    iprop(recs X K ∗ (openTok ER (cellAt c x) ∗ semVal (cellAt c x) 0))
      ⊢ (|={Set.univ}=> (iprop(atPos ER (cellAt c x) 0 ∅ 0 ∗ reached ER (cellAt c x) 0) : sProp 𝕄)) := by
  iintro ⟨#HR, Ho, Hv⟩
  iapply (Rounds.cell_open ER (Rd X) (g := cellAt c x) (Set.mem_univ (K (cellAt c x))))
  isplitr
  · iapply (show recs X K ⊢ cellInv ER (Rd X) (K (cellAt c x)) (cellAt c x) from bigSep_elim (cell_mem c x)); iexact HR
  isplitl [Ho] <;> iassumption

/-- All copies' cells of a device opened. -/
theorem open_all (K : GSem nD τ sig → ℕ) (c : Dev nD) :
    iprop(recs X K ∗ (bigSep Finset.univ fun x => openTok ER (cellAt c x)) ∗ (bigSep Finset.univ fun x => semVal (cellAt c x) 0))
      ⊢ (|={Set.univ}=> bigSep Finset.univ fun x => iprop(atPos ER (cellAt c x) 0 ∅ 0 ∗ reached ER (cellAt c x) 0) : sProp 𝕄) := by
  refine BIBase.Entails.trans ?_ (bigSep_fupd Finset.univ _)
  refine (sep_mono_right (Entails.of_eq (bigSep_sep' _ _ _).symm)).trans ?_
  exact bigSep_with_persistent (R := recs X K) (Φ := fun x => iprop(openTok ER (cellAt c x) ∗ semVal (cellAt c x) 0)) fun x _ => open_one X K c x

/-- A hop's share of an opened cell, a token and a credit. -/
theorem hopOwn_intro (c : Dev nD) (b : Bool) (h : Fin 7) :
    iprop(((atPos ER (sC b c h) 0 ∅ 0 ∗ reached ER (sC b c h) 0) ∗ (atPos ER (rC b c h) 0 ∅ 0 ∗ reached ER (rC b c h) 0))
        ∗ dutyTok ER (sC b c h) 0 false ∗ dutyTok ER (rC b (nx b c) h) 0 false ∗ cred (tallyAt (rC b c h) () (Nc b)))
      ⊢ iprop(hopOwn (F := F) c b h ∗ reached ER (rC b c h) 0) := by
  unfold hopOwn
  iintro ⟨⟨⟨Has, #Hrs⟩, Har, #Hrr⟩, Hts, Htr, Hc⟩
  isplitl [Has Har Hts Htr Hc]
  · isplitl [Has]; · iexact Has
    isplitl [Har]; · iexact Har
    isplitr; · iexact Hrs
    isplitl [Hts]; · iexact Hts
    isplitl [Htr]; · iexact Htr
    iexact Hc
  iexact Hrr

/-- Both directions of a hop. -/
theorem hop_intro (c : Dev nD) (h : Fin 7) :
    iprop((((atPos ER (sC false c h) 0 ∅ 0 ∗ reached ER (sC false c h) 0) ∗ (atPos ER (rC false c h) 0 ∅ 0 ∗ reached ER (rC false c h) 0))
          ∗ ((atPos ER (sC true c h) 0 ∅ 0 ∗ reached ER (sC true c h) 0) ∗ (atPos ER (rC true c h) 0 ∅ 0 ∗ reached ER (rC true c h) 0)))
        ∗ (dutyTok ER (sC false c h) 0 false ∗ dutyTok ER (rC false (nx false c) h) 0 false ∗ dutyTok ER (sC true c h) 0 false ∗ dutyTok ER (rC true (nx true c) h) 0 false)
        ∗ cred (tallyAt (rC false c h) () (Nc false)) ∗ cred (tallyAt (rC true c h) () (Nc true)))
      ⊢ iprop((hopOwn (F := F) c false h ∗ hopOwn (F := F) c true h) ∗ reached ER (rC false c h) 0 ∗ reached ER (rC true c h) 0) := by
  iintro ⟨⟨H0, H1⟩, ⟨Ht0, Ht1, Ht2, Ht3⟩, Hc0, Hc1⟩
  ihave H0 := (hopOwn_intro c false h) $$ [H0 Ht0 Ht1 Hc0]
  · isplitl [H0]; · iexact H0
    isplitl [Ht0]; · iexact Ht0
    isplitl [Ht1]; · iexact Ht1
    iexact Hc0
  ihave H1 := (hopOwn_intro c true h) $$ [H1 Ht2 Ht3 Hc1]
  · isplitl [H1]; · iexact H1
    isplitl [Ht2]; · iexact Ht2
    isplitl [Ht3]; · iexact Ht3
    iexact Hc1
  icases H0 with ⟨H0, Hr0⟩
  icases H1 with ⟨H1, Hr1⟩
  isplitl [H0 H1]
  · isplitl [H0]; · iexact H0
    iexact H1
  isplitl [Hr0]; · iexact Hr0
  iexact Hr1

/-- The opened cells, the tokens and the credit, dealt to the hops. -/
theorem hops_intro (c : Dev nD) :
    iprop((bigSep Finset.univ fun x => iprop(atPos ER (cellAt c x) 0 ∅ 0 ∗ reached ER (cellAt c x) 0))
        ∗ ((bigSep Finset.univ fun h : Fin 7 => dutyTok ER (sC false c h) 0 false) ∗ (bigSep Finset.univ fun h : Fin 7 => dutyTok ER (rC false (nx false c) h) 0 false)
          ∗ (bigSep Finset.univ fun h : Fin 7 => dutyTok ER (sC true c h) 0 false) ∗ (bigSep Finset.univ fun h : Fin 7 => dutyTok ER (rC true (nx true c) h) 0 false))
        ∗ (bigSep Finset.univ fun h : Fin 7 => cred (tallyAt (rC false c h) () (Nc false))) ∗ (bigSep Finset.univ fun h : Fin 7 => cred (tallyAt (rC true c h) () (Nc true))))
      ⊢ iprop((bigSep Finset.univ fun h => iprop(hopOwn (F := F) c false h ∗ hopOwn (F := F) c true h)) ∗ arr (F := F) c false ∗ arr (F := F) c true) := by
  unfold arr
  rw [by_hops]
  simp only [← bigSep_sep']
  exact bigSep_mono fun h _ => hop_intro c h

/-- What a device holds of the protocol until the kernel is entered. -/
def lin (c : Dev nD) : sProp 𝕄 :=
  iprop(atPos ER (barC c) 0 ∅ 0 ∗ (bigSep Finset.univ fun x => openTok ER (cellAt c x)) ∗ payToks (F := F) c)
/-- The same with the records all devices share. -/
def Tk (c : Dev nD) : sProp 𝕄 :=
  iprop((∃ K, recs X K ∗ (bigSep barCells fun g => reached ER g 0) ∗ lin (F := F) c) ∗ creds (F := F) c)

/-- The barriers' first rounds are reached, that of one device among them. -/
theorem reached_bar (c : Dev nD) : (bigSep barCells fun g => (reached ER g 0 : sProp 𝕄)) ⊢ reached ER (barC c) 0 :=
  bigSep_elim (Finset.mem_map_of_mem barEmb (Finset.mem_univ c))

/-- Entering the kernel opens the copies' cells. -/
theorem ghost_intro (c : Dev nD) : iprop(Tk X c ∗ (bigSep Finset.univ fun x => semVal (cellAt c x) 0))
    ⊢ (|={Set.univ}=> ∃ K, ghost X c K : sProp 𝕄) := by
  unfold Tk lin creds payToks
  iintro ⟨⟨⟨%K, #HR, #Hrb, Hat, Hop, ⟨Ht0, Ht1⟩, Hts⟩, HcB, Hcs⟩, Hv⟩
  imod (open_all X K c) $$ [Hop Hv] with Hopen
  · isplitr; · iexact HR
    isplitl [Hop] <;> iassumption
  ihave Hh := (hops_intro c) $$ [Hopen Hts Hcs]
  · isplitl [Hopen]; · iexact Hopen
    isplitl [Hts]; · iexact Hts
    iexact Hcs
  icases Hh with ⟨Hh, Ha0, Ha1⟩
  imodintro
  iexists K
  unfold ghost
  isplitr; · iexact HR
  isplitl [Hat]; · iexact Hat
  isplitl [Ht0]
  · isplitl [Ht0]; · iexact Ht0
    iapply (reached_bar (F := F) (fr false c)); iexact Hrb
  isplitl [Ht1]
  · isplitl [Ht1]; · iexact Ht1
    iapply (reached_bar (F := F) (fr true c)); iexact Hrb
  isplitl [HcB]; · iexact HcB
  isplitl [Hh]; · iexact Hh
  isplitl [Ha0]; · iexact Ha0
  iexact Ha1

end Cert.KernelIdeal.Own
-- ==== Proof.Launch.lean ====
/-
  The kernel inside its pipeline: the proof data of the one grid point, its body obligation, and the region that the
  protocol enters and leaves.
-/
module

public import proofs.«01_k».proof.Proof.Ghost
public import Idealize.ShloMosaic.Lib.Pipeline.Kit
public import Idealize.ShloMosaic.Lib.Pipeline.RegionTalk

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The staged operands -/

/-- Device `d`'s rows of `x`, its columns of `w` and its scale, as staged. -/
def xs (d : Dev nD) : S512x4096.Idx → Elt F .fp8e5m2 := iblk m d 0 t0_0
def ws (d : Dev nD) : S4096x1024.Idx → Elt F .fp8e5m2 := iblk m d 1 t0_0
def ss (d : Dev nD) : S1x1.Idx → Elt F .f32 := iblk m d 2 t0_0
/-- The result that device `d` computes. -/
def res (d : Dev nD) : S4096x1024.Idx → Elt F .f32 := outV (xs m) (ws m d) (sAt (ss m d))

/-! ## The region's own semaphores -/

/-- The copies' semaphores. -/
def osem (x : Bool × Bool × Fin 7) : SemLoc sig := .dma (semOf x)
/-- The region's own semaphores are different, and none is a window's. -/
theorem osem_facts : Pipeline.OwnSemFacts spec0 osem := by decide +kernel

/-- What the body leaves of the copies: every semaphore at zero and both gathering buffers whole. -/
theorem done_split (X : Dev nD → S512x4096.Idx → Elt F .fp8e5m2) (c : Dev nD) (h : Fin 7) :
    iprop(hopDone X c false h ∗ hopDone X c true h)
      ⊢ iprop(((semVal (sC false c h) 0 ∗ semVal (rC false c h) 0) ∗ (semVal (sC true c h) 0 ∗ semVal (rC true c h) 0))
        ∗ slotP false c (org false c h.val) fullShare (full X false) ∗ slotP true c (org true c h.val) fullShare (full X true)) := by
  unfold hopDone
  iintro ⟨⟨H0, H1, H2⟩, H3, H4, H5⟩
  isplitl [H0 H1 H3 H4]
  · isplitl [H0 H1]; · isplitl [H0] <;> iassumption
    isplitl [H3] <;> iassumption
  isplitl [H2] <;> iassumption

/-- All copies' counters at zero, as the region is to return them. -/
theorem ownSems_intro (c : Dev nD) :
    (bigSep Finset.univ fun h : Fin 7 => iprop((semVal (sC false c h) 0 ∗ semVal (rC false c h) 0) ∗ (semVal (sC true c h) 0 ∗ semVal (rC true c h) 0) : sProp 𝕄))
      ⊢ (Pipeline.ownSems0 osem c : sProp 𝕄) :=
  BIBase.Entails.of_eq (by_hops (F := F) fun x => semVal ((c : Thread nD τ), osem x) 0).symm

/-- The region's counters at zero, copy by copy. -/
theorem ownSems_elim (c : Dev nD) : (Pipeline.ownSems0 osem c : sProp 𝕄) ⊢ (bigSep Finset.univ fun x => semVal (cellAt c x) 0) := BIBase.Entails.refl

/-- What the body ends with gives the copies' counters at zero and both buffers whole. -/
theorem done_elim (X : Dev nD → S512x4096.Idx → Elt F .fp8e5m2) (c : Dev nD) :
    iprop((bigSep Finset.univ fun h => iprop(hopDone X c false h ∗ hopDone X c true h))
        ∗ slotP false c (org false c 7) fullShare (full X false) ∗ slotP true c (org true c 7) fullShare (full X true))
      ⊢ iprop(Pipeline.ownSems0 osem c ∗ scrAny (F := F) c false ∗ scrAny (F := F) c true) := by
  iintro ⟨H, H0, H1⟩
  ihave H' := (show (bigSep Finset.univ fun h => iprop(hopDone X c false h ∗ hopDone X c true h)) ⊢ _ from bigSep_mono fun h _ => done_split X c h) $$ H
  ihave H2 := Smoke.bigSep_unpair $$ H'
  icases H2 with ⟨Hs, H3⟩
  ihave H4 := Smoke.bigSep_unpair $$ H3
  icases H4 with ⟨H5, H6⟩
  isplitl [Hs]; · iapply (ownSems_intro c); iexact Hs
  isplitl [H5 H0]
  · iapply (slots_give X c false); isplitl [H5] <;> iassumption
  iapply (slots_give X c true); isplitl [H6] <;> iassumption

/-! ## The proof data -/

/-- What enters the kernel and what it leaves, beside its buffers. -/
def Xk (c : Dev nD) : sProp 𝕄 := iprop((∃ K, ghost (xs m) c K) ∗ levAts L lv)
def Yk (c : Dev nD) : sProp 𝕄 := semVal (barC c) 0
def phi0 (c : Dev nD) : sProp 𝕄 := iprop(Xk m c ∗ (scrAny (F := F) c false ∗ scrAny (F := F) c true) ∗ ∃ r, prngReg c r)
def phi1 (c : Dev nD) : sProp 𝕄 := iprop(Yk (F := F) c ∗ (Pipeline.ownSems0 osem c ∗ scrAny (F := F) c false ∗ scrAny (F := F) c true) ∗ ∃ r, prngReg c r)

def dat (c : Dev nD) : Dat τ (Elt F) Unit ℕ UU ℕ cfg0 c where
  A w := V m c (Pipeline.arrRef spec0 w)
  after := fun | 0 => fun _ => xs m c | 1 => fun _ => ws m c | 2 => fun _ => ss m c | 3 => fun _ => res m c | ⟨_ + 4, h⟩ => absurd h (Nat.not_lt.2 (Nat.le_add_left _ _))
  Φ t := if t.val = 0 then phi0 m c else phi1 c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The body finds the device's rows of x in the first staging buffer. -/
theorem before0 (c : Dev nD) (t : Fin cfg0.N) (d) : (dat m c).before 0 t d = xs m c := by
  obtain rfl := fin_N0 t
  exact ((dat m c).before_in_eq_fetched 0 rfl (fun _ => rfl) (fun _ _ _ => rfl) (fun t => by obtain rfl := fin_N0 t; rfl) t0_0 d).trans rfl
/-- The body finds the device's columns of w in the second. -/
theorem before1 (c : Dev nD) (t : Fin cfg0.N) (d) : (dat m c).before 1 t d = ws m c := by
  obtain rfl := fin_N0 t
  exact ((dat m c).before_in_eq_fetched 1 rfl (fun _ => rfl) (fun _ _ _ => rfl) (fun t => by obtain rfl := fin_N0 t; rfl) t0_0 d).trans rfl
/-- The body finds the scale in the third. -/
theorem before2 (c : Dev nD) (t : Fin cfg0.N) (d) : (dat m c).before 2 t d = ss m c := by
  obtain rfl := fin_N0 t
  exact ((dat m c).before_in_eq_fetched 2 rfl (fun _ => rfl) (fun _ _ _ => rfl) (fun t => by obtain rfl := fin_N0 t; rfl) t0_0 d).trans rfl

/-- The body starts with the launch's debts. -/
theorem owed_first (c : Dev nD) : (dat m c).owed t0_0.castSucc = O₀ c := by
  show (if (t0_0.castSucc : Fin (cfg0.N + 1)).val = 0 then O₀ c else 0) = O₀ c; exact if_pos rfl
/-- The region starts with the launch's debts. -/
theorem owed_zero (c : Dev nD) : (pdats m 0 c).owed 0 = O₀ c := by
  show (if (0 : Fin (cfg0.N + 1)).val = 0 then O₀ c else 0) = O₀ c; exact if_pos rfl
/-- The region ends with no debts. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]
/-- The body ends with no debts. -/
theorem owed_succ (c : Dev nD) : (dat m c).owed t0_0.succ = 0 := by
  show (if (t0_0.succ : Fin (cfg0.N + 1)).val = 0 then O₀ c else 0) = 0; exact if_neg (by rw [Fin.val_succ]; exact Nat.succ_ne_zero _)
/-- What the region holds beside its windows at its start. -/
theorem phi_zero (c : Dev nD) : (pdats m 0 c).Φ 0 = phi0 m c := by
  show (if (0 : Fin (cfg0.N + 1)).val = 0 then phi0 m c else phi1 c) = phi0 m c; exact if_pos rfl
/-- What the body holds beside its windows at its start. -/
theorem phi_first (c : Dev nD) : (dat m c).Φ t0_0.castSucc = phi0 m c := by
  show (if (t0_0.castSucc : Fin (cfg0.N + 1)).val = 0 then phi0 m c else phi1 c) = phi0 m c; exact if_pos rfl
/-- What the body holds beside its windows at its end. -/
theorem phi_succ (c : Dev nD) : (dat m c).Φ t0_0.succ = phi1 c := by
  show (if (t0_0.succ : Fin (cfg0.N + 1)).val = 0 then phi0 m c else phi1 c) = phi1 c; exact if_neg (by rw [Fin.val_succ]; exact Nat.succ_ne_zero _)
/-- What the region holds beside its windows at its end. -/
theorem phi_last (c : Dev nD) : (pdats m 0 c).Φ (Fin.last _) = phi1 c := by
  show (if (Fin.last cfg0.N).val = 0 then phi0 m c else phi1 c) = phi1 c
  rw [Fin.val_last, if_neg (by rw [show cfg0.N = 1 from N_0]; decide)]

/-- Owing a tally, put into and taken out of the pipeline's form. -/
theorem owing_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound; rw [h]
  iintro HO; iexists W; isplitr; · ipureintro; exact fun _ _ => Or.inl trivial
  iexact HO
/-- The region's account of debts, with the debts named. -/
theorem owing_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- The run of the body between the proof data's two invariants. -/
theorem point_wp (c : Dev nD) :
    iprop(phi0 m c ∗ (dat m c).owesAt () t0_0.castSucc ∗ xPts (xs m) c ∗ wPts (ws m c) c ∗ sPts c (ss m c) ∗ oAny (F := F) c)
      ⊢ WP c body fun _ => iprop(phi1 c ∗ (dat m c).owesAt () t0_0.succ ∗ xPts (xs m) c ∗ wPts (ws m c) c ∗ sPts c (ss m c)
          ∗ (((c : Thread nD τ).loc cc0_stg3_0) ↦{fullShare} (res m c))) := by
  unfold phi0 Xk
  iintro ⟨⟨⟨⟨%K, Hg⟩, Hlev⟩, ⟨Hf, Ht⟩, Hreg⟩, HO, Hx, Hw, Hs, Ho⟩
  ihave HO' := (owing_out m c _ (O₀ c) (owed_first m c)) $$ HO
  iapply (body_wp (xs m) (ws m c) c K (ss m c) _)
  isplitl [Hg Hlev Hf Ht HO' Hx Hw Hs Ho]
  · unfold bodyPre
    isplitl [Hg]; · iexact Hg
    isplitl [Hlev]; · iexact Hlev
    isplitl [Hf]; · iapply (slots_take c false); iexact Hf
    isplitl [Ht]; · iapply (slots_take c true); iexact Ht
    isplitl [Hx]; · iexact Hx
    isplitl [Hw]; · iexact Hw
    isplitl [Hs]; · iexact Hs
    isplitl [Ho]; · iexact Ho
    iexact HO'
  unfold bodyPost phi1 Yk
  iintro ⟨Hb, Hd, Hs0, Hs1, Hx, Hw, Hs, Ho, ⟨%W', HO⟩⟩
  imodintro
  isplitl [Hb Hd Hs0 Hs1 Hreg]
  · isplitl [Hb]; · iexact Hb
    isplitl [Hd Hs0 Hs1]
    · iapply (done_elim (xs m) c)
      isplitl [Hd]; · iexact Hd
      isplitl [Hs0] <;> iassumption
    iexact Hreg
  isplitl [HO]; · iapply (owing_in m c t0_0.succ 0 (owed_succ m c) W'); iexact HO
  isplitl [Hx]; · iexact Hx
  isplitl [Hw]; · iexact Hw
  isplitl [Hs]; · iexact Hs
  iexact Ho

/-- The same on the staging buffers as the pipeline hands them. -/
theorem point_owns (c : Dev nD) :
    iprop((dat m c).Φ t0_0.castSucc ∗ (dat m c).owesAt () t0_0.castSucc
        ∗ (∃ d, owns (c : Thread nD τ) (Memref.whole cc0_stg0_0) fullShare ((dat m c).before 0 t0_0 d))
        ∗ (∃ d, owns (c : Thread nD τ) (Memref.whole cc0_stg1_0) fullShare ((dat m c).before 1 t0_0 d))
        ∗ (∃ d, owns (c : Thread nD τ) (Memref.whole cc0_stg2_0) fullShare ((dat m c).before 2 t0_0 d))
        ∗ (∃ d, owns (c : Thread nD τ) (Memref.whole cc0_stg3_0) fullShare ((dat m c).before 3 t0_0 d)))
      ⊢ WP c (bodyAt0 t0_0) fun _ => iprop((dat m c).Φ t0_0.succ ∗ (dat m c).owesAt () t0_0.succ
        ∗ owns (c : Thread nD τ) (Memref.whole cc0_stg0_0) fullShare (xs m c)
        ∗ owns (c : Thread nD τ) (Memref.whole cc0_stg1_0) fullShare (ws m c)
        ∗ owns (c : Thread nD τ) (Memref.whole cc0_stg2_0) fullShare (ss m c)
        ∗ owns (c : Thread nD τ) (Memref.whole cc0_stg3_0) fullShare (res m c)) := by
  rw [show bodyAt0 (F := F) t0_0 = body from body_eq _ _ _ _ _ _, phi_first, phi_succ]
  simp only [before0, before1, before2]
  rw [owns_whole, owns_whole, owns_whole, owns_whole]
  refine BIBase.Entails.trans ?_ (point_wp m c)
  iintro ⟨HP, HO, ⟨%_d0, H0⟩, ⟨%_d1, H1⟩, ⟨%_d2, H2⟩, ⟨%d3, H3⟩⟩
  isplitl [HP]; · iexact HP
  isplitl [HO]; · iexact HO
  isplitl [H0]; · iexact H0
  isplitl [H1]; · iexact H1
  isplitl [H2]; · iexact H2
  iexists ((dat m c).before 3 t0_0 d3)
  iapply (BIBase.Entails.of_eq (owns_whole (c : Thread nD τ) cc0_stg3_0 fullShare _)); iexact H3

/-- The body obligation. -/
theorem bodyObl (c : Dev nD) : BodyObligation (dat m c) defs₀ 𝒱₀ () Set.univ := fun t => by
  obtain rfl := fin_N0 t
  rw [bigSep_W0, bigSep_W0]
  exact point_owns m c

/-! ## The buffers and the region -/

def bufs : Finset (DevRef τ sig) := (StableHlo.tcRefs τ sig).filter fun b => ¬ b.isScoped
/-- Those that no window stages. -/
def offs : Finset (DevRef τ sig) := {Proc.devRef .tc main_arg2, Proc.devRef .tc main_arg3, Proc.devRef .tc main_v1}

def W₀ (c : Dev nD) : Valuation τ sig (Elt F) := fun b => m (c, b)
/-- The buffers when the kernel is entered, and when it is left. -/
def W₁ (c : Dev nD) : Valuation τ sig (Elt F) := StableHlo.after hostOps0 (W₀ m c)
def W₂ (c : Dev nD) : Valuation τ sig (Elt F) := Function.update (W₁ m c) (Proc.devRef .tc main_v3) ((dat m c).arrAt 3 cfg0.N)

/-- The buffers outside the region, as the host operations hold them. -/
theorem held_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, bigSep_map]
  rfl

/-- These buffers are the windows' arrays and the others. -/
theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) offs W) := by
  have e : bufs \ Pipeline.arrRefs (τ := τ) (pcfgs (F := F) 0).spec = offs := (by decide +kernel : bufs \ Pipeline.arrRefs (τ := τ) spec0 = offs)
  rw [StableHlo.held_sub_split (c : Thread nD τ) (show Pipeline.arrRefs (τ := τ) (pcfgs (F := F) 0).spec ⊆ bufs from
    (by decide +kernel : Pipeline.arrRefs (τ := τ) spec0 ⊆ bufs)) W, e]

/-- The launch facts of the one pipeline. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes is at a level above the staging waits. -/
theorem O₀_lv {c : Dev nD} {g : GSem nD τ sig} {u : Unit} (h : 0 < O₀ c g u) : u ∈ L g ∧ 0 < lv g u := by
  have hg : (∃ b d k, g = rC b d k) ∨ ∃ d, g = barC d := by
    unfold O₀ at h
    rw [Pi.add_apply, Pi.add_apply, Finsupp.add_apply, Finsupp.add_apply] at h
    rcases Nat.add_pos_iff_pos_or_pos.mp h with h | h
    · rcases Nat.add_pos_iff_pos_or_pos.mp h with h | h
      · obtain ⟨b, k, -, e⟩ := debt_pos c 0 _ _ h
        exact .inl ⟨b, _, k, e⟩
      · rw [tallyAt_apply] at h
        split at h
        · next e => exact .inr ⟨_, e.1⟩
        · exact absurd h (Nat.lt_irrefl 0)
    · rw [tallyAt_apply] at h
      split at h
      · next e => exact .inr ⟨_, e.1⟩
      · exact absurd h (Nat.lt_irrefl 0)
  rcases hg with ⟨b, d, k, rfl⟩ | ⟨d, rfl⟩
  · exact ⟨by rw [L_tc]; exact Finset.mem_univ _, by rw [lv_rcv]; omega⟩
  · exact ⟨by rw [L_tc]; exact Finset.mem_univ _, by rw [lv_bar]; omega⟩

/-- Whatever the region owes is owed to a cell with a level above zero. -/
theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact O₀_lv h
  · exact absurd h (Nat.lt_irrefl 0)

/-- The windows' own semaphores are none of the protocol's. -/
theorem stage_lv : ∀ (w : Fin 4) (s : Fin ((win0 w).nbuf)), useOf (.dma ((win0 w).sem s)) = Use.other := by decide +kernel

/-- The region holds every window's array whole. -/
theorem share_full (c : Dev nD) : ∀ w : Fin 4, (pdats m 0 c).share w = fullShare
  | 0 => rfl
  | 1 => rfl
  | 2 => rfl
  | 3 => rfl
  | ⟨_ + 4, h⟩ => absurd h (Nat.not_lt.2 (Nat.le_add_left _ _))

/-- A device's tokens and its counters at zero open the protocol. -/
theorem hopen (c : Dev nD) : iprop(Tk (xs m) c ∗ Pipeline.ownSems0 osem c ∗ levAts L lv) ⊢ (|={Set.univ}=> Xk m c : sProp 𝕄) := by
  unfold Xk
  iintro ⟨HT, Hs, #Hlev⟩
  imod (ghost_intro (xs m) c) $$ [HT Hs] with HG
  · isplitl [HT]; · iexact HT
    iapply (ownSems_elim c); iexact Hs
  imodintro
  isplitl [HG]; · iexact HG
  iexact Hlev

/-- The region's scratch: the two gathering buffers. -/
theorem scoped_eq (c : Dev nD) :
    (Pipeline.scopedRest (Ix := Unit) (Name := ℕ) (U := UU) (Lvl := ℕ) (Val := Elt F) (Pipeline.pin (pcfgs (F := F)) adm 0).spec c : sProp 𝕄)
      = iprop(scrAny (F := F) c false ∗ scrAny (F := F) c true) :=
  scopedRest0_eq c

/-- Holding no buffer is holding nothing. -/
theorem held_none (c : Dev nD) (W : Valuation τ sig (Elt F)) : (StableHlo.held (c.tc : Thread nD τ) ∅ W : sProp 𝕄) = iprop(emp) := by
  unfold StableHlo.held; exact bigSep_empty

/-- What the region gets on entry is what its first point starts from. -/
theorem hin (c : Dev nD) : iprop(Pipeline.scopedRest (Pipeline.pin (pcfgs (F := F)) adm 0).spec c ∗ (∃ r, prngReg c r) ∗ StableHlo.held (c.tc : Thread nD τ) ∅ (W₁ m c) ∗ Xk m c)
    ⊢ (pdats m 0 c).Φ 0 := by
  rw [phi_zero, scoped_eq]
  unfold phi0
  iintro ⟨Hs, Hp, -, HX⟩
  isplitl [HX]; · iexact HX
  isplitl [Hs]; · iexact Hs
  iexact Hp

/-- What the last point leaves is what the region returns on exit. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c)
      ∗ Pipeline.ownSems0 osem c ∗ Yk (F := F) c) := by
  rw [phi_last, scoped_eq, held_none]
  unfold phi1
  iintro ⟨HY, ⟨Ho, Hs⟩, Hp⟩
  isplitl [Hs]; · iexact Hs
  isplitl [Hp]; · iexact Hp
  isplitr; · iempintro
  isplitl [Ho]; · iexact Ho
  iexact HY

/-- Before the body the windows' arrays are as the host operations left them. -/
theorem arr_in (c : Dev nD) (w : Fin 4) : (pdats m 0 c).arrAt w 0 = W₁ m c (Proc.devRef .tc (Pipeline.arrRef (Pipeline.pin (pcfgs (F := F)) adm 0).spec w)) := rfl

/-- The region changes no array but the result. -/
theorem W₂_ne (c : Dev nD) (b : DevRef τ sig) (h : b ≠ Proc.devRef .tc main_v3) : W₂ m c b = W₁ m c b := Function.update_of_ne h _ _

/-- After the body the windows' arrays are as before, but for the result. -/
theorem arr_out (c : Dev nD) : ∀ w : Fin 4, (pdats m 0 c).arrAt w (Pipeline.pin (pcfgs (F := F)) adm 0).N
    = W₂ m c (Proc.devRef .tc (Pipeline.arrRef (Pipeline.pin (pcfgs (F := F)) adm 0).spec w))
  | 0 => ((dat m c).arrAt_in 0 rfl _).trans (W₂_ne m c (Proc.devRef .tc main_arg0) (StableHlo.devRef_ne_of_ne (by decide))).symm
  | 1 => ((dat m c).arrAt_in 1 rfl _).trans (W₂_ne m c (Proc.devRef .tc main_arg1) (StableHlo.devRef_ne_of_ne (by decide))).symm
  | 2 => ((dat m c).arrAt_in 2 rfl _).trans (W₂_ne m c (Proc.devRef .tc main_v2) (StableHlo.devRef_ne_of_ne (by decide))).symm
  | 3 => (Function.update_self (Proc.devRef .tc main_v3) ((dat m c).arrAt 3 cfg0.N) (W₁ m c)).symm
  | ⟨_ + 4, h⟩ => absurd h (Nat.not_lt.2 (Nat.le_add_left _ _))

/-- The other buffers stay as they were. -/
theorem rest_keep (c : Dev nD) : ∀ b ∈ offs \ ∅, W₂ m c b = W₁ m c b := fun b hb =>
  W₂_ne m c b fun e => absurd (e ▸ (Finset.mem_sdiff.mp hb).1) (by decide)

local notation "ℝ𝕊" => Pipeline.RegionSeg (pcfgs (F := F)) adm (pdats m) () defs₀ 𝒱₀ L lv

set_option backward.isDefEq.respectTransparency.types false in
/-- The kernel's region. -/
def reg : ℝ𝕊 0 :=
  Pipeline.RegionSeg.ofTalk (pcfgs (F := F)) adm (pdats m) () defs₀ 𝒱₀ L lv 0 osem osem_facts
    ∅ offs (Finset.empty_subset _) kitP rfl (fun c => (bodyObl m c).loose)
    (fun _ => 0) O₀ (fun c => (owed_zero m c).trans (zero_add _).symm) (owed_last m) (fun _ => rfl) (share_full m)
    (W₁ m) (W₂ m) (rest_keep m)
    (Tk (xs m)) Yk (Xk m) Yk (hopen m) (hin m) (hout m)
    (fun c => by iintro H; imodintro; iexact H)
    (fun _ => 0)
    ⟨fun c w s => by rw [L_tc]; exact Finset.mem_univ _, fun c w s => by unfold lv; rw [stage_lv w s], fun c t g i h => cutD m c t g i h⟩
    (fun _ => iprop(emp))
    (arr_in m) (arr_out m)

end Cert.KernelIdeal.Own
-- ==== Proof.Run.lean ====
/-
  The whole program: the host operations, then the kernel's region; what the launch deals out; and the run to its end, for
  any float values.
-/
module

public import proofs.«01_k».proof.Proof.Launch

@[expose] public section

set_option maxRecDepth 16384

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

/-- What rides beside the buffers up to the kernel. -/
def rides (c : Dev nD) : sProp 𝕄 := iprop(Tk (xs m) c ∗ (∃ r, prngReg c r) ∗ ∃ W, owes (c : Thread nD τ) (O₀ c) W)

local notation "ℍ" => Pipeline.HostSeg (Name := ℕ) (U := UU) (pcfgs (F := F)) defs₀ 𝒱₀ L lv

/-- The host operations use only buffers outside the region. -/
theorem ops_sub : ∀ op ∈ (hostOps0 : List (HloOp τ sig (Elt F))), op.bufs ⊆ bufs := by
  intro op h
  rcases List.mem_cons.mp h with rfl | h
  · exact (by decide +kernel : ({Proc.devRef .tc main_arg2, Proc.devRef .tc main_arg3, Proc.devRef .tc main_v1} : Finset (DevRef τ sig)) ⊆ bufs)
  · obtain rfl := List.mem_singleton.mp h
    exact (by decide +kernel : ({Proc.devRef .tc main_v1, Proc.devRef .tc main_v2} : Finset (DevRef τ sig)) ⊆ bufs)

def seg : ℍ := Pipeline.HostSeg.ofOps _ _ _ _ _ bufs hostOps0 ops_sub (List.forall_iff_forall_mem.mp hostOps0_fresh) (W₀ m) (rides m)

abbrev T₀ (c : Dev nD) : sProp 𝕄 := iprop(StableHlo.held (c : Thread nD τ) bufs (W₀ m c) ∗ rides m c)
abbrev Tₙ (c : Dev nD) : sProp 𝕄 := iprop(StableHlo.held (c : Thread nD τ) bufs (W₂ m c) ∗ semVal (barC c) 0)

/-- What a device holds after the host operations is what the region asks for. -/
theorem reg_pre (c : Dev nD) : iprop(StableHlo.held (c : Thread nD τ) bufs (W₁ m c) ∗ rides m c) ⊢ (reg m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) offs (W₁ m c) ∗ emp) ∗ Tk (xs m) c ∗ ∃ Wd, owes (c : Thread nD τ) (0 + O₀ c) Wd)
  rw [zero_add, bufs_split]
  unfold rides
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the region returns is what the device ends with. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) offs (W₂ m c) ∗ emp) ∗ Yk (F := F) c ∗ ∃ Wd, owes (c : Thread nD τ) (0 : CellTallies nD τ sig Unit) Wd) ⊢ _
  unfold Yk Tₙ
  rw [bufs_split]
  iintro ⟨Ha, -, ⟨Ho, -⟩, Hb, HO⟩
  isplitr [HO]
  · isplitl [Ha Ho]; · isplitl [Ha] <;> iassumption
    iexact Hb
  iexact HO

def segs : List (Pipeline.Seg (pcfgs (F := F)) adm (pdats m) () defs₀ 𝒱₀ L lv) := [.host (seg m), .region (reg m)]

/-- The program is its two segments in order. -/
theorem main_run (c : Dev nD) : main (F := F) c = Pipeline.Seg.run (segs m) :=
  main_segs adm (pdats m) () 𝒱₀ L lv (seg m) (reg m) rfl c

/-! ## The launch -/

/-- No barrier's cell is a copy's cell. -/
theorem cells_disjoint : Disjoint (barCells : Finset (GSem nD τ sig)) scCells := by
  rw [Finset.disjoint_left]
  intro g h₁ h₂
  obtain ⟨c, -, rfl⟩ := Finset.mem_map.mp h₁
  obtain ⟨p, -, h⟩ := Finset.mem_map.mp h₂
  exact bar_ne_cell c p.1 p.2 h.symm

/-- The launch element: the staging cells' beside the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's element waits on device 0 until it is dealt. -/
def atZero (P : sProp 𝕄) (c : Dev nD) : sProp 𝕄 := if c = 0 then P else iprop(emp)
/-- What only the first device is asked for is, over all devices, held once. -/
theorem atZero_all (P : sProp 𝕄) : bigSep Finset.univ (atZero P) = P := by
  rw [bigSep_univ_at _ (0 : Dev nD), bigSep_congr (s := Finset.univ.erase (0 : Dev nD)) (Ψ := fun _ => (BI.emp : sProp 𝕄))
    (Φ := atZero P) fun c hc => if_neg (Finset.ne_of_mem_erase hc), bigSep_emp_const]
  unfold atZero; rw [if_pos rfl]
  exact BI.equiv_iff.mp sep_emp
def G : Dev nD → sProp 𝕄 := atZero (BI.own (ER (launchOf barCells scCells toks)))

/-- The records that all devices share. -/
def shared (K : GSem nD τ sig → ℕ) : sProp 𝕄 := iprop(recs (xs m) K ∗ bigSep barCells fun g => reached ER g 0)
instance shared_persistent (K : GSem nD τ sig → ℕ) : BI.Persistent (shared m K) := by unfold shared; infer_instance

/-- What of a device's launch holdings is not the protocol's ghost state. -/
def plain (c : Dev nD) : sProp 𝕄 :=
  iprop(StableHlo.held (c : Thread nD τ) bufs (W₀ m c) ∗ creds (F := F) c ∗ owes (c : Thread nD τ) (O₀ c) ∅ ∗ ∃ r, prngReg c r)

/-- A device's start, from what is shared, its part of the protocol and its plain resources. -/
theorem T₀_intro (K : GSem nD τ sig → ℕ) (c : Dev nD) : iprop(shared m K ∗ (lin (F := F) c ∗ plain m c)) ⊢ T₀ m c := by
  unfold plain T₀ rides Tk shared
  iintro ⟨⟨#HR, #Hb⟩, Hl, Hh, Hc, HO, Hp⟩
  isplitl [Hh]; · iexact Hh
  isplitl [Hl Hc]
  · isplitl [Hl]
    · iexists K
      isplitr; · iexact HR
      isplitr; · iexact Hb
      iexact Hl
    iexact Hc
  isplitl [Hp]; · iexact Hp
  iexists ∅; iexact HO

/-- Outside the region a device has one semaphore, the barrier's. -/
theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, bigSep_singleton]

/-- A device's launch holdings, sorted. -/
theorem core_sort (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barC c) 0 ∗ G c)) : sProp 𝕄) := by
  rw [show unscopedBufs c (fun b => m ((c : Thread nD τ).loc b)) = StableHlo.held (c : Thread nD τ) bufs (W₀ m c) from held_bufs c (W₀ m c),
    unscopedSems_eq]
  unfold plain
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The places at the barriers, device by device. -/
theorem at_bars : bigSep barCells (fun g => (atPos ER g 0 ∅ 0 : sProp 𝕄)) ⊢ bigSep Finset.univ (fun c : Dev nD => (atPos ER (barC c) 0 ∅ 0 : sProp 𝕄)) :=
  Entails.of_eq (bigSep_map (s := Finset.univ) barEmb (Φ := fun g : GSem nD τ sig => (atPos ER g 0 ∅ 0 : sProp 𝕄)))
/-- The barriers' counters, from those of the devices. -/
theorem val_bars : bigSep Finset.univ (fun c : Dev nD => (semVal (barC c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The copies' cells still to be opened, device by device. -/
theorem open_cells : bigSep scCells (fun g => (openTok ER g : sProp 𝕄))
    ⊢ bigSep Finset.univ (fun c : Dev nD => bigSep Finset.univ fun x => (openTok ER (cellAt c x) : sProp 𝕄)) :=
  Entails.of_eq (by unfold scCells; rw [bigSep_map, bigSep_univ_prod]; rfl)

/-- The launch dealt out. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barC c) 0 ∗ G c)) : sProp 𝕄) from bigSep_mono fun c _ => core_sort m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells scCells toks)) from
    Entails.of_eq (atZero_all (F := F) (BI.own (ER (launchOf barCells scCells toks))))) $$ HG
  imod (Rounds.fund_launch ER (Rd (xs m)) cells_disjoint (fun g _ h => h) toks) $$ [Hv Hu] with ⟨%K, -, #Hinv, #Hr, Hat, Hopen, Htok⟩
  · isplitl [Hv]
    · iapply val_bars $$ Hv
    · iexact Hu
  imodintro
  iapply (bigSep_with_persistent (R := shared m K) (Φ := fun c => iprop(lin (F := F) c ∗ plain m c)) fun c _ => T₀_intro m K c)
  isplitr
  · unfold shared recs
    isplitr; · iexact Hinv
    iexact Hr
  iapply Smoke.bigSep_pair
  isplitr [HB]
  · unfold lin
    iapply Smoke.bigSep_pair; isplitl [Hat]; · iapply at_bars $$ Hat
    iapply Smoke.bigSep_pair; isplitl [Hopen]; · iapply open_cells $$ Hopen
    iapply (toks_around (F := F))
    iapply (toks_own (F := F)) $$ Htok
  · iexact HB

/-! ## The run -/

/-- A semaphore that outlives the region is the barrier's. -/
theorem unscoped_bar : ∀ sm : SemLoc sig, sm.isScoped .tc = false → sm = .reg barS := by decide +kernel

/-- A device's buffer held whole. -/
abbrev pt (c : Dev nD) (W : Valuation τ sig (Elt F)) (b : Ref sig .tc) : sProp 𝕄 :=
  ((c : Thread nD τ).loc b) ↦{fullShare} W (Proc.devRef .tc b)
/-- The buffers one by one. -/
theorem bufs_list (c : Dev nD) (W : Valuation τ sig (Elt F)) : (StableHlo.held (c : Thread nD τ) bufs W : sProp 𝕄)
    = iprop(pt c W main_arg0 ∗ pt c W main_arg1 ∗ pt c W main_arg2 ∗ pt c W main_arg3 ∗ pt c W main_v1 ∗ pt c W main_v2 ∗ pt c W main_v3) := by
  unfold StableHlo.held
  rw [bigSep_eq_bigSepL_of_eq [Proc.devRef .tc main_arg0, Proc.devRef .tc main_arg1, Proc.devRef .tc main_arg2,
      Proc.devRef .tc main_arg3, Proc.devRef .tc main_v1, Proc.devRef .tc main_v2, Proc.devRef .tc main_v3] (by decide +kernel) (by decide +kernel)]
  rfl

/-- The buffers that the claims speak of. -/
def Ends (c : Dev nD) (W : Valuation τ sig (Elt F)) (s : MemSt nD τ sig (Elt F)) : Prop :=
  (s.mem ((c : Thread nD τ).loc main_arg0) = W (Proc.devRef .tc main_arg0) ∧ s.mem ((c : Thread nD τ).loc main_arg1) = W (Proc.devRef .tc main_arg1)
    ∧ s.mem ((c : Thread nD τ).loc main_arg2) = W (Proc.devRef .tc main_arg2) ∧ s.mem ((c : Thread nD τ).loc main_arg3) = W (Proc.devRef .tc main_arg3)
    ∧ s.mem ((c : Thread nD τ).loc main_v3) = W (Proc.devRef .tc main_v3)) ∧ s.sem (barC c) = 0

/-- What a device ends with fixes its buffers in the final memory. -/
theorem read_end (c : Dev nD) (s' : Phys nD τ sig (Elt F)) :
    iprop(Tₙ m c ∗ SI s') ⊢ (|={Set.univ}=> iprop(⌜Ends c (W₂ m c) s'.mem⌝ ∗ SI s') : sProp 𝕄) := by
  unfold Tₙ
  rw [bufs_list]
  iintro ⟨⟨⟨H0, H1, H2, H3, -, -, H4⟩, Hb⟩, HSI⟩
  icombine HSI H0 gives %h0
  icombine HSI H1 gives %h1
  icombine HSI H2 gives %h2
  icombine HSI H3 gives %h3
  icombine HSI H4 gives %h4
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4⟩, by simpa using hb⟩
  iexact HSI

/-- A buffer other than the result ends as the region found it. -/
theorem arg_keep (c : Dev nD) (b : Ref sig .tc) (h : b ≠ main_v3) : W₂ m c (Proc.devRef .tc b) = V m c b :=
  W₂_ne m c _ (StableHlo.devRef_ne_of_ne h)

/-- The result's one block is the whole array. -/
theorem out_emb (j : S4096x1024.Idx) : ((cfg0.win 3).blk t0_0).view.emb j = j := funext fun a => Fin.ext (by
  have ha : a = 0 ∨ a = 1 := by revert a; decide
  rcases ha with rfl | rfl
  · show 0 * 4096 + 1 * (j 0).val = (j 0).val; omega
  · show 0 * 1024 + 1 * (j 1).val = (j 1).val; omega)

/-- The result array is what the body left in its staging buffer. -/
theorem W₂_out (c : Dev nD) : W₂ m c (Proc.devRef .tc main_v3) = res m c := by
  refine (Function.update_self (Proc.devRef .tc main_v3) ((dat m c).arrAt 3 cfg0.N) (W₁ m c)).trans ?_
  refine (dat m c).arrAt_eq_of_cover 3 (res m c) (fun t _ => ?_) fun i => ⟨t0_0, flush0_3 t0_0, ?_⟩
  · obtain rfl := fin_N0 t
    exact funext fun j => congrArg (res m c) (out_emb j).symm
  · exact Finset.mem_map.mpr ⟨i, Finset.mem_univ _, out_emb i⟩

set_option backward.isDefEq.respectTransparency.types false in
/-- From any memory with every counter at zero, every weakly fair execution of the program on the eight devices ends; then the
    arguments are as they were, every counter is at zero, and each device's result is `res`. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v3) = res m c) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [atZero_all]; iexact HX)
    (T₀ := T₀ m) (Tₙ := Tₙ m)
    (hch := ⟨fun c => .rfl, fun c => reg_pre m c, fun c => reg_post m c⟩)
    (hinit := deal m ρ)
    (QY := fun c s => Ends c (W₂ m c) s)
    (hfin := fun c s' => read_end m c s')
    (hQ := fun s h hs => ⟨fun c => by
        obtain ⟨⟨h0, h1, h2, h3, h4⟩, -⟩ := h c
        exact ⟨h0.trans ((arg_keep m c main_arg0 (by decide)).trans (V_main_arg0 m c)), h1.trans ((arg_keep m c main_arg1 (by decide)).trans (V_main_arg1 m c)),
          h2.trans ((arg_keep m c main_arg2 (by decide)).trans (V_main_arg2 m c)), h3.trans ((arg_keep m c main_arg3 (by decide)).trans (V_main_arg3 m c)),
          h4.trans (W₂_out m c)⟩,
      sem_eq_zero hs fun c sm hsm => by
        obtain rfl := unscoped_bar sm hsm
        exact (h c).2⟩)

end Cert.KernelIdeal.Own
-- ==== Proof.Value.lean ====
/-
  What the two programs compute on the extended reals: an entry of the result is the positive part of a row of x times a column
  of w times the two scales, on the ring of devices as on one.
-/
module

public import proofs.«01_k».proof.Proof.Run
public import proofs.«01_k».proof.Proof.Gen.ReferenceIdeal.Value
public import Idealize.ShloMosaic.Lib.Pipeline.ValueKit
public import Idealize.ShloMosaic.Lib.StableHlo.ReadAt
public import Idealize.ShloMosaic.Lib.Layout

@[expose] public section

set_option maxRecDepth 16384

noncomputable section

namespace Cert.OnReals

open Idealize.ShloMosaic
open scoped BigOperators

/-- An entry of the result: the positive part of a scaled inner product. -/
def entry (f g : Fin 4096 → EReal) (s : EReal) : EReal := max ((∑ k, f k * g k) * s) 0

/-- What the kernel stores, at an entry. -/
theorem ker_entry (s : EReal) (v : Vec Ideal Cert.KernelIdeal.S1x256x4096 .fp8e5m2) (u : Vec Ideal Cert.KernelIdeal.S4096x1024 .fp8e5m2)
    (r : Fin 256) (l : Fin 1024) :
    Cert.KernelIdeal.Gen.k0_pay1 (F := Ideal) s v u (ix2 r l) = entry (fun k => v (ix3 0 r k)) (fun k => u (ix2 k l)) s := by
  unfold entry
  pointwise [Cert.KernelIdeal.Gen.k0_pay1]

/-- What the reference stores, at an entry. -/
theorem ref_entry (x : Vec Ideal Cert.ReferenceIdeal.S4096x4096 .fp8e5m2) (w : Vec Ideal Cert.ReferenceIdeal.S4096x8192 .fp8e5m2) (a b : EReal)
    (r : Fin 4096) (l : Fin 8192) :
    Cert.ReferenceIdeal.Gen.k0_pay1 (F := Ideal) x w a b (ix2 r l) = entry (fun k => x (ix2 r k)) (fun k => w (ix2 k l)) (a * b) := by
  unfold entry
  pointwise [Cert.ReferenceIdeal.Gen.k0_pay1]

end Cert.OnReals

namespace Cert.KernelIdeal.Own

open Idealize.ShloMosaic Idealize.ShloMosaic.TcCoe Idealize.SL.Sem
open Cert.KernelIdeal Cert.KernelIdeal.Gen

variable (m : (ℓ : Loc nD τ sig) → Buf (Elt Ideal) ℓ)

/-! ## The staged operands are the arguments -/

/-- The two scales as device `d` is given them. -/
def scaleX (d : Dev nD) : S1.Idx → EReal := m ((d : Thread nD τ).loc main_arg2)
def scaleW (d : Dev nD) : S1.Idx → EReal := m ((d : Thread nD τ).loc main_arg3)

/-- The block of x that is staged is the whole array of the device. -/
theorem x_emb (j : S512x4096.Idx) : ((cfg0.win 0).blk t0_0).view.emb j = j := funext fun a => Fin.ext (by
  have ha : a = 0 ∨ a = 1 := by revert a; decide
  rcases ha with rfl | rfl
  · show 0 * 512 + 1 * (j 0).val = (j 0).val; omega
  · show 0 * 4096 + 1 * (j 1).val = (j 1).val; omega)
/-- The block of w that is staged is the whole array of the device. -/
theorem w_emb (j : S4096x1024.Idx) : ((cfg0.win 1).blk t0_0).view.emb j = j := funext fun a => Fin.ext (by
  have ha : a = 0 ∨ a = 1 := by revert a; decide
  rcases ha with rfl | rfl
  · show 0 * 4096 + 1 * (j 0).val = (j 0).val; omega
  · show 0 * 1024 + 1 * (j 1).val = (j 1).val; omega)
/-- The block of the scale that is staged is the whole array. -/
theorem s_emb (j : S1x1.Idx) : ((cfg0.win 2).blk t0_0).view.emb j = j := funext fun a => Fin.ext (by
  have ha : a = 0 ∨ a = 1 := by revert a; decide
  rcases ha with rfl | rfl
  · show 0 * 1 + 1 * (j 0).val = (j 0).val; omega
  · show 0 * 1 + 1 * (j 1).val = (j 1).val; omega)

/-- The staged rows of x are the device's first argument. -/
theorem xs_eq (d : Dev nD) : xs m d = m ((d : Thread nD τ).loc main_arg0) :=
  funext fun i => (congrArg (V m d main_arg0) (x_emb i)).trans (congrFun (V_main_arg0 m d) i)
/-- The staged columns of w are the device's second argument. -/
theorem ws_eq (d : Dev nD) : ws m d = m ((d : Thread nD τ).loc main_arg1) :=
  funext fun i => (congrArg (V m d main_arg1) (w_emb i)).trans (congrFun (V_main_arg1 m d) i)

/-- The host multiplies the two scales. -/
theorem V_scale (d : Dev nD) (i : S1x1.Idx) : V m d main_v2 i = scaleX m d (ix1 0) * scaleW m d (ix1 0) := by
  unfold V scaleX scaleW
  after_reads_at
/-- The staged scale is the product of the two scales. -/
theorem ss_eq (d : Dev nD) (i : S1x1.Idx) : ss m d i = scaleX m d (ix1 0) * scaleW m d (ix1 0) :=
  (congrArg (V m d main_v2) (s_emb i)).trans (V_scale m d i)

end Cert.KernelIdeal.Own

namespace Cert.OnReals.Ref

open Cert.ReferenceIdeal Cert.ReferenceIdeal.Gen Idealize.ShloMosaic Idealize.ShloMosaic.TcCoe Idealize.SL.Sem

variable (m : (ℓ : Loc nD τ sig) → Buf (Elt Ideal) ℓ)

/-- The reference's arguments. -/
def argX (c : Dev nD) : S4096x4096.Idx → EReal := m ((c : Thread nD τ).loc main_arg0)
def argW (c : Dev nD) : S4096x8192.Idx → EReal := m ((c : Thread nD τ).loc main_arg1)
def scaleX (c : Dev nD) : S1.Idx → EReal := m ((c : Thread nD τ).loc main_arg2)
def scaleW (c : Dev nD) : S1.Idx → EReal := m ((c : Thread nD τ).loc main_arg3)

/-- The reference's result as an expression in its arguments. -/
def out (c : Dev nD) : S4096x8192.Idx → EReal := fun i =>
  entry (fun k => argX m c (ix2 (i 0) k)) (fun k => argW m c (ix2 k (i 1))) (scaleX m c (ix1 0) * scaleW m c (ix1 0))

/-- The reference's windows begin at the origin. -/
theorem idx : ∀ t : Fin cfg0.N, win0_0.index t = ![0, 0] ∧ win0_1.index t = ![0, 0] ∧ win0_2.index t = ![0] ∧ win0_3.index t = ![0] ∧ win0_4.index t = ![0, 0] :=
  (by decide +kernel : ∀ t : Fin grid0.N, _)

/-- The reference's staged x is its first argument. -/
theorem blockX (c : Dev nD) (t : Fin cfg0.N) : iblk m c 0 t = argX m c := by unfold argX; blk_ext! [iblk, V, idx t]
/-- The reference's staged w is its second argument. -/
theorem blockW (c : Dev nD) (t : Fin cfg0.N) : iblk m c 1 t = argW m c := by unfold argW; blk_ext! [iblk, V, idx t]
/-- The reference's first staged scale is its third argument. -/
theorem blockSX (c : Dev nD) (t : Fin cfg0.N) : iblk m c 2 t = scaleX m c := by unfold scaleX; blk_ext! [iblk, V, idx t]
/-- The reference's second staged scale is its fourth argument. -/
theorem blockSW (c : Dev nD) (t : Fin cfg0.N) : iblk m c 3 t = scaleW m c := by unfold scaleW; blk_ext! [iblk, V, idx t]

/-- The one index of an array of one element. -/
theorem first_S1 (h : 0 < S1.numel) : Shape.Idx.first h = (ix1 0 : S1.Idx) := by
  funext a
  have ha : a = 0 := by revert a; decide
  subst ha
  have h1 : (Shape.Idx.first h 0).val < 1 := (Shape.Idx.first h 0).isLt
  exact Fin.ext (Nat.lt_one_iff.mp h1)

/-- What the reference's body leaves is its result. -/
theorem point (c : Dev nD) : k0_pay1 (F := Ideal) (argX m c) (argW m c) (scaleX m c (ix1 0)) (scaleW m c (ix1 0)) = out m c :=
  funext fun i => by
    rw [eq_ix2 i]
    exact ref_entry _ _ _ _ _ _

/-- After the reference's run its result array is `out`. -/
theorem arr_out (c : Dev nD) : (dats m 0 c).arrAt 4 cfg0.N = out m c := by
  refine (dats m 0 c).arrAt_eq_of_after_last 4 t0_0 (by decide +kernel) _ fun j => ?_
  blk_simp
  rw [after0_4]
  unfold outsAt0
  frame_out
  rw [blockX, blockW, blockSX, blockSW]
  simp only [first_S1]
  have e0 : (View.whole cc0_stg0_0).read (Elt Ideal) ((hs0_0 t0_0).unread (argX m c)) = argX m c := (hs0_0 t0_0).read_unread _
  have e1 : (View.whole cc0_stg1_0).read (Elt Ideal) ((hs0_1 t0_0).unread (argW m c)) = argW m c := (hs0_1 t0_0).read_unread _
  have e2 : (View.whole cc0_stg2_0).read (Elt Ideal) ((hs0_2 t0_0).unread (scaleX m c)) = scaleX m c := (hs0_2 t0_0).read_unread _
  have e3 : (View.whole cc0_stg3_0).read (Elt Ideal) ((hs0_3 t0_0).unread (scaleW m c)) = scaleW m c := (hs0_3 t0_0).read_unread _
  rw [e0, e1, e2, e3]
  exact congrFun (point m c) j

end Cert.OnReals.Ref

namespace Cert.KernelIdeal.Own

open Idealize.ShloMosaic Idealize.ShloMosaic.TcCoe Idealize.SL.Sem
open Cert.KernelIdeal Cert.KernelIdeal.Gen Cert.OnReals

/-! ## The kernel's result is the device's block of the reference's -/

/-- A row of a filled slot is a row of the block of the slot's device. -/
theorem slot_row (X : Dev nD → S512x4096.Idx → EReal) (b : Bool) (o : Dev nD) (r : Fin 256) (k : Fin 4096) (p : Fin 512) (hp : p.val = lead b + r.val) :
    slotV (F := Ideal) X b o (ix3 0 r k) = X o (ix2 p k) := by
  have e0 : (slotR o).emb (ix3 0 r k) 0 = o := Fin.ext (by show o.val + 1 * 0 = o.val; omega)
  have e1 : ((slotR o).emb (ix3 0 r k) 1).val = r.val := by show 0 + 1 * r.val = r.val; omega
  have e2 : ((slotR o).emb (ix3 0 r k) 2).val = k.val := by show 0 + 1 * k.val = k.val; omega
  unfold slotV gath
  rw [e0]
  refine congrArg (X o) (funext fun a => Fin.ext ?_)
  have ha : a = 0 ∨ a = 1 := by revert a; decide
  rcases ha with rfl | rfl
  · show lead b + ((slotR o).emb (ix3 0 r k) 1).val = p.val
    rw [e1, hp]
  · exact e2

/-- The scale that the body reads is the one element of its operand. -/
theorem sAt_const (sc : S1x1.Idx → EReal) (v : EReal) (h : ∀ i, sc i = v) : sAt (F := Ideal) sc = v := h _

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- With the arguments laid over the devices as blocks of the reference's arguments, device `c`'s result is its block of columns of
    the reference's result. -/
theorem res_block
    (h0 : ∀ d : Dev nD, m ((d : Thread nD τ).loc main_arg0) = Layout.block ⟨2, ![512, 4096]⟩ ⟨2, ![4096, 4096]⟩ 0 8 d (Ref.argX m' 0))
    (h1 : ∀ d : Dev nD, m ((d : Thread nD τ).loc main_arg1) = Layout.block ⟨2, ![4096, 1024]⟩ ⟨2, ![4096, 8192]⟩ 1 8 d (Ref.argW m' 0))
    (h2 : ∀ d : Dev nD, scaleX m d = Ref.scaleX m' 0) (h3 : ∀ d : Dev nD, scaleW m d = Ref.scaleW m' 0) (c : Dev nD) :
    res m c = Layout.block ⟨2, ![4096, 1024]⟩ ⟨2, ![4096, 8192]⟩ 1 8 c (Ref.out m' 0) := by
  funext i
  obtain ⟨hi0, hi1⟩ := ix_of i
  have hs : sAt (F := Ideal) (ss m c) = Ref.scaleX m' 0 (ix1 0) * Ref.scaleW m' 0 (ix1 0) :=
    sAt_const _ _ fun j => by rw [ss_eq, h2, h3]
  unfold res outV
  rw [hs, eq_ix2 (lc i)]
  refine (ker_entry _ _ _ (lc i 0) (lc i 1)).trans ?_
  rw [Layout.block_apply]
  unfold Ref.out
  have hr : (lc i 0).val < 256 := (lc i 0).isLt
  refine congrArg₂ (fun f g => entry f g _) (funext fun k => ?_) (funext fun k => ?_)
  · rw [slot_row (xs m) (hb i) (ko i) (lc i 0) k ⟨lead (hb i) + (lc i 0).val, by have := lead_le (hb i); omega⟩ rfl, xs_eq, h0, Layout.block_apply]
    refine congrArg (Ref.argX m' 0) (funext fun a => Fin.ext ?_)
    have ha : a = 0 ∨ a = 1 := by revert a; decide
    rcases ha with rfl | rfl
    · show (ko i).val * 512 + (lead (hb i) + (lc i 0).val) = (i 0).val
      omega
    · rfl
  · rw [ws_eq, h1, Layout.block_apply]
    refine congrArg (Ref.argW m' 0) (funext fun a => Fin.ext ?_)
    have ha : a = 0 ∨ a = 1 := by revert a; decide
    rcases ha with rfl | rfl
    · rfl
    · show c.val * 1024 + (lc i 1).val = c.val * 1024 + (i 1).val
      omega

end Cert.KernelIdeal.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem

/-- The first claim, said of the idealized program's text read at words of bits: the two texts are one. -/
def frameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel's run, with the result dropped, read at words of bits. -/
theorem frame_text : frameText := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Own.run_main (F := Bits) m ρ)

/-- The two programs' texts are one. -/
theorem same_text : frameText = Cert.quiescent_Kernel (hKernel := Cert.Kernel.Gen.facts) := by sl_kernel_rfl

/-- The kernel ends on every device from any memory, leaves its arguments as they were and every counter at zero. -/
theorem frame_kernel : Cert.quiescent_Kernel (hKernel := Cert.Kernel.Gen.facts) := same_text.mp frame_text

/-- The same of the kernel on the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Own.run_main (F := Ideal) m ρ)

/-- The same of the reference. -/
theorem frame_reference : Cert.quiescent_ReferenceIdeal (hReferenceIdeal := Cert.ReferenceIdeal.Gen.facts) := fun m ρ _ =>
  Cert.ReferenceIdeal.Gen.frame m ρ

/-- On the extended reals every device of the ring ends with its block of columns of the reference's result. -/
theorem value : Cert.algebraic_KernelIdeal_ReferenceIdeal (hKernelIdeal := Cert.KernelIdeal.Gen.facts) (hReferenceIdeal := Cert.ReferenceIdeal.Gen.facts) :=
  fun m ρ m' ρ' _ h => ⟨Cert.OnReals.Ref.out m' 0,
    (θ_run Cert.KernelIdeal.defs _ _).mono (fun _ hr c =>
        ⟨(hr.1 c).2.2.2.2.trans (Cert.KernelIdeal.Own.res_block m m' (fun d => (h d).1) (fun d => (h d).2.1) (fun d => (h d).2.2.1) (fun d => (h d).2.2.2) c),
          (hr.1 c).1, (hr.1 c).2.1, (hr.1 c).2.2.1, (hr.1 c).2.2.2.1⟩)
      (Cert.KernelIdeal.Own.run_main (F := Ideal) m ρ),
    (θ_run Cert.ReferenceIdeal.defs _ _).mono (fun _ hr => ⟨(hr 0).1.trans (Cert.OnReals.Ref.arr_out m' 0), (hr 0).2⟩)
      (Cert.ReferenceIdeal.Value.run_blocks m' ρ')⟩

/-- Every claim of this certificate. -/
theorem claim : Cert.Claim :=
  ⟨Cert.Kernel.Gen.facts, Cert.KernelIdeal.Gen.facts, Cert.ReferenceIdeal.Gen.facts, frame_kernel, frame_ideal, frame_reference, trivial, value⟩

end Cert.Proof

end
